-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_rows [hPre_rows : Cert.Pre_rows.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_rows.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_rows [hPre_rows : Cert.Pre_rows.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_rows.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_rows [hKernel2Ideal : Cert.Kernel2Ideal.Facts] [hPre_rows : Cert.Pre_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_rows m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_rows [hReference2Ideal : Cert.Reference2Ideal.Facts] [hPre_rows : Cert.Pre_rows.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_rows m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal_pre_rows [hKernel2Ideal : Cert.Kernel2Ideal.Facts] [hReference2Ideal : Cert.Reference2Ideal.Facts] [hPre_rows : Cert.Pre_rows.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_rows m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts) (hPre_rows : Cert.Pre_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_rows (hKernel2Ideal := hKernel2Ideal) (hPre_rows := hPre_rows)
    ∧ quiescent_Reference2Ideal (hReference2Ideal := hReference2Ideal)
    ∧ quiescent_Reference2Ideal_pre_rows (hReference2Ideal := hReference2Ideal) (hPre_rows := hPre_rows)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_rows (hKernel2Ideal := hKernel2Ideal) (hReference2Ideal := hReference2Ideal) (hPre_rows := hPre_rows)
-- ==== Pre_finite.lean ====
abbrev S16384x8x128 : Shape := ⟨3, ![16384, 8, 128]⟩
abbrev S16384x8x64 : Shape := ⟨3, ![16384, 8, 64]⟩
abbrev S16640x8x128 : Shape := ⟨3, ![16640, 8, 128]⟩
abbrev S16640x64 : Shape := ⟨2, ![16640, 64]⟩
abbrev S_ : Shape := ⟨0, ![]⟩

class Facts : Prop where
  bcast_S_S16384x8x128 : S_.BroadcastsInDim S16384x8x128 (![] : Fin 0 → Fin S16384x8x128.rank)
  reducesTo_S16384x8x128_S_d0_1_2 : S16384x8x128.ReducesTo [0, 1, 2] S_
  h_S_ : 0 < S_.numel
  bcast_S_S16384x8x64 : S_.BroadcastsInDim S16384x8x64 (![] : Fin 0 → Fin S16384x8x64.rank)
  reducesTo_S16384x8x64_S_d0_1_2 : S16384x8x64.ReducesTo [0, 1, 2] S_
  bcast_S_S16640x8x128 : S_.BroadcastsInDim S16640x8x128 (![] : Fin 0 → Fin S16640x8x128.rank)
  reducesTo_S16640x8x128_S_d0_1_2 : S16640x8x128.ReducesTo [0, 1, 2] S_
  bcast_S_S16640x64 : S_.BroadcastsInDim S16640x64 (![] : Fin 0 → Fin S16640x64.rank)
  reducesTo_S16640x64_S_d0_1 : S16640x64.ReducesTo [0, 1] S_

variable [Facts]

def fn_part1 {F : FTy → Type} [FloatOps F] (main_v13 : IVec S_ 1) (main_v16 : IVec S16640x64 1) : IVec S_ 1 :=
  let main_c_5 : IVec S_ 1 := constantI S_ 1 1#1
  let main_v17 : IVec S_ 1 := (fun x v => Host.reduce IntOp.andi x v reducesTo_S16640x64_S_d0_1 h_S_) main_v16 main_c_5
  let main_v18 : IVec S_ 1 := andi main_v13 main_v17
  main_v18

def fn {F : FTy → Type} [FloatOps F] (main_arg0 : FVec F S16384x8x128 .f32) (main_arg1 : FVec F S16384x8x64 .f32) (main_arg2 : FVec F S16640x8x128 .f32) (main_arg3 : FVec F S16640x64 .f32) (main_arg4 : FVec F S16640x8x128 .f32) : IVec S_ 1 :=
  let main_v0 : FVec F S16384x8x128 .f32 := Host.absf main_arg0
  let main_cst : FVec F S_ .f32 := constant S_ .f32 0x7F800000#32
  let main_v1 : FVec F S16384x8x128 .f32 := broadcastInDim S16384x8x128 ![] bcast_S_S16384x8x128 main_cst
  let main_v2 : IVec S16384x8x128 1 := cmpf .olt main_v0 main_v1
  let main_c : IVec S_ 1 := constantI S_ 1 1#1
  let main_v3 : IVec S_ 1 := (fun x v => Host.reduce IntOp.andi x v reducesTo_S16384x8x128_S_d0_1_2 h_S_) main_v2 main_c
  let main_v4 : FVec F S16384x8x64 .f32 := Host.absf main_arg1
  let main_cst_0 : FVec F S_ .f32 := constant S_ .f32 0x7F800000#32
  let main_v5 : FVec F S16384x8x64 .f32 := broadcastInDim S16384x8x64 ![] bcast_S_S16384x8x64 main_cst_0
  let main_v6 : IVec S16384x8x64 1 := cmpf .olt main_v4 main_v5
  let main_c_1 : IVec S_ 1 := constantI S_ 1 1#1
  let main_v7 : IVec S_ 1 := (fun x v => Host.reduce IntOp.andi x v reducesTo_S16384x8x64_S_d0_1_2 h_S_) main_v6 main_c_1
  let main_v8 : IVec S_ 1 := andi main_v3 main_v7
  let main_v9 : FVec F S16640x8x128 .f32 := Host.absf main_arg2
  let main_cst_2 : FVec F S_ .f32 := constant S_ .f32 0x7F800000#32
  let main_v10 : FVec F S16640x8x128 .f32 := broadcastInDim S16640x8x128 ![] bcast_S_S16640x8x128 main_cst_2
  let main_v11 : IVec S16640x8x128 1 := cmpf .olt main_v9 main_v10
  let main_c_3 : IVec S_ 1 := constantI S_ 1 1#1
  let main_v12 : IVec S_ 1 := (fun x v => Host.reduce IntOp.andi x v reducesTo_S16640x8x128_S_d0_1_2 h_S_) main_v11 main_c_3
  let main_v13 : IVec S_ 1 := andi main_v8 main_v12
  let main_v14 : FVec F S16640x64 .f32 := Host.absf main_arg3
  let main_cst_4 : FVec F S_ .f32 := constant S_ .f32 0x7F800000#32
  let main_v15 : FVec F S16640x64 .f32 := broadcastInDim S16640x64 ![] bcast_S_S16640x64 main_cst_4
  let main_v16 : IVec S16640x64 1 := cmpf .olt main_v14 main_v15
  fn_part1 (F := F) main_v13 main_v16
-- ==== Pre_rows.lean ====
abbrev S16384x2048 : Shape := ⟨2, ![16384, 2048]⟩
abbrev S16x2048 : Shape := ⟨2, ![16, 2048]⟩
abbrev S2x16x2048x2048 : Shape := ⟨4, ![2, 16, 2048, 2048]⟩
abbrev S_ : Shape := ⟨0, ![]⟩

class Facts : Prop where
  bcast_S_S16x2048 : S_.BroadcastsInDim S16x2048 (![] : Fin 0 → Fin S16x2048.rank)
  reducesTo_S16x2048_S_d0_1 : S16x2048.ReducesTo [0, 1] S_
  h_S_ : 0 < S_.numel

variable [Facts]

def fn {F : FTy → Type} [FloatOps F] (main_arg0 : FVec F S16384x2048 .f32) (main_arg1 : IVec S16x2048 32) (main_arg2 : FVec F S16x2048 .f32) (main_arg3 : FVec F S2x16x2048x2048 .f32) (main_arg4 : FVec F S2x16x2048x2048 .f32) (main_arg5 : FVec F S2x16x2048x2048 .f32) : IVec S_ 1 :=
  let main_c : IVec S_ 32 := constantI S_ 32 0#32
  let main_v0 : IVec S16x2048 32 := broadcastInDim S16x2048 ![] bcast_S_S16x2048 main_c
  let main_v1 : IVec S16x2048 1 := cmpi .sge main_arg1 main_v0
  let main_c_0 : IVec S_ 32 := constantI S_ 32 16384#32
  let main_v2 : IVec S16x2048 32 := broadcastInDim S16x2048 ![] bcast_S_S16x2048 main_c_0
  let main_v3 : IVec S16x2048 1 := cmpi .slt main_arg1 main_v2
  let main_v4 : IVec S16x2048 1 := andi main_v1 main_v3
  let main_c_1 : IVec S_ 1 := constantI S_ 1 1#1
  let main_v5 : IVec S_ 1 := (fun x v => Host.reduce IntOp.andi x v reducesTo_S16x2048_S_d0_1 h_S_) main_v4 main_c_1
  main_v5
-- ==== Kernel.lean ====
abbrev S16384x8x128 : Shape := ⟨3, ![16384, 8, 128]⟩
abbrev S16384x8x64 : Shape := ⟨3, ![16384, 8, 64]⟩
abbrev S16640x8x128 : Shape := ⟨3, ![16640, 8, 128]⟩
abbrev S16640x64 : Shape := ⟨2, ![16640, 64]⟩
abbrev S_ : Shape := ⟨0, ![]⟩
abbrev S16384x8x256 : Shape := ⟨3, ![16384, 8, 256]⟩
abbrev S8x256x16384 : Shape := ⟨3, ![8, 256, 16384]⟩
abbrev S16640x1x64 : Shape := ⟨3, ![16640, 1, 64]⟩
abbrev S16640x8x64 : Shape := ⟨3, ![16640, 8, 64]⟩
abbrev S16640x8x256 : Shape := ⟨3, ![16640, 8, 256]⟩
abbrev S8x16640x256 : Shape := ⟨3, ![8, 16640, 256]⟩
abbrev S8x128x16640 : Shape := ⟨3, ![8, 128, 16640]⟩
abbrev S8x1x16640 : Shape := ⟨3, ![8, 1, 16640]⟩
abbrev S8x15x16640 : Shape := ⟨3, ![8, 15, 16640]⟩
abbrev S8x144x16640 : Shape := ⟨3, ![8, 144, 16640]⟩
abbrev S16384x1024 : Shape := ⟨2, ![16384, 1024]⟩
abbrev S1x256x1024 : Shape := ⟨3, ![1, 256, 1024]⟩
abbrev S1x16640x256 : Shape := ⟨3, ![1, 16640, 256]⟩
abbrev S1x144x16640 : Shape := ⟨3, ![1, 144, 16640]⟩
abbrev S1024x128 : Shape := ⟨2, ![1024, 128]⟩
abbrev S2x4x1280x256 : Shape := ⟨4, ![2, 4, 1280, 256]⟩
abbrev S4x144x256 : Shape := ⟨3, ![4, 144, 256]⟩
abbrev S1x256 : Shape := ⟨2, ![1, 256]⟩
abbrev S1x1280x256 : Shape := ⟨3, ![1, 1280, 256]⟩
abbrev S1280x256 : Shape := ⟨2, ![1280, 256]⟩
abbrev S1x256x256 : Shape := ⟨3, ![1, 256, 256]⟩
abbrev S256x256 : Shape := ⟨2, ![256, 256]⟩
abbrev S1x1x1280x256 : Shape := ⟨4, ![1, 1, 1280, 256]⟩
abbrev S256 : Shape := ⟨1, ![256]⟩
abbrev S1x144x1280 : Shape := ⟨3, ![1, 144, 1280]⟩
abbrev S144x1280 : Shape := ⟨2, ![144, 1280]⟩
abbrev S1x144x256 : Shape := ⟨3, ![1, 144, 256]⟩
abbrev S144x256 : Shape := ⟨2, ![144, 256]⟩
abbrev S1x128x256 : Shape := ⟨3, ![1, 128, 256]⟩
abbrev S128x256 : Shape := ⟨2, ![128, 256]⟩
abbrev S1x1x256 : Shape := ⟨3, ![1, 1, 256]⟩
abbrev S256x128 : Shape := ⟨2, ![256, 128]⟩

abbrev nBuf : Space → Nat
  | .hbm => 31
  | .vmem => 11
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16640x8x128, .f32⟩
  | .hbm, ⟨3, _⟩ => ⟨S16640x64, .f32⟩
  | .hbm, ⟨4, _⟩ => ⟨S16640x8x128, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S16384x8x64, .f32⟩
  | .hbm, ⟨11, _⟩ => ⟨S16384x8x256, .f32⟩
  | .hbm, ⟨12, _⟩ => ⟨S16384x8x256, .f32⟩
  | .hbm, ⟨13, _⟩ => ⟨S16384x8x256, .f32⟩
  | .hbm, ⟨14, _⟩ => ⟨S8x256x16384, .f32⟩
  | .hbm, ⟨15, _⟩ => ⟨S8x256x16384, .bf16⟩
  | .hbm, ⟨16, _⟩ => ⟨S16640x1x64, .f32⟩
  | .hbm, ⟨17, _⟩ => ⟨S16640x8x64, .f32⟩
  | .hbm, ⟨18, _⟩ => ⟨S_, .f32⟩
  | .hbm, ⟨19, _⟩ => ⟨S16640x8x64, .f32⟩
  | .hbm, ⟨20, _⟩ => ⟨S16640x8x256, .f32⟩
  | .hbm, ⟨21, _⟩ => ⟨S8x16640x256, .f32⟩
  | .hbm, ⟨22, _⟩ => ⟨S8x16640x256, .bf16⟩
  | .hbm, ⟨23, _⟩ => ⟨S8x128x16640, .f32⟩
  | .hbm, ⟨24, _⟩ => ⟨S_, .f32⟩
  | .hbm, ⟨25, _⟩ => ⟨S8x1x16640, .f32⟩
  | .hbm, ⟨26, _⟩ => ⟨S_, .f32⟩
  | .hbm, ⟨27, _⟩ => ⟨S8x15x16640, .f32⟩
  | .hbm, ⟨28, _⟩ => ⟨S8x144x16640, .f32⟩
  | .hbm, ⟨29, _⟩ => ⟨S8x144x16640, .bf16⟩
  | .hbm, ⟨30, _⟩ => ⟨S16384x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x16640x256, .bf16⟩
  | .local _ .vmem, ⟨3, _⟩ => ⟨S1x16640x256, .bf16⟩
  | .local _ .vmem, ⟨4, _⟩ => ⟨S1x144x16640, .bf16⟩
  | .local _ .vmem, ⟨5, _⟩ => ⟨S1x144x16640, .bf16⟩
  | .local _ .vmem, ⟨6, _⟩ => ⟨S1024x128, .bf16⟩
  | .local _ .vmem, ⟨7, _⟩ => ⟨S1024x128, .bf16⟩
  | .local _ .vmem, ⟨8, _⟩ => ⟨S2x4x1280x256, .f32⟩
  | .local _ .vmem, ⟨9, _⟩ => ⟨S2x4x1280x256, .bf16⟩
  | .local _ .vmem, ⟨10, _⟩ => ⟨S4x144x256, .f32⟩
  | _, _ => ⟨S16384x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

@[reducible] def k0_t1_loop : Scf.Loop 32 :=
  let c0_i32 : BitVec 32 := 0#32
  let c5_i32 : BitVec 32 := 5#32
  let v136 : BitVec 32 := Scalar.addi c0_i32 c5_i32
  let c1_i32 : BitVec 32 := 1#32
  ⟨c0_i32, v136, c1_i32⟩
def k0_mult1 (k0_t1 : Fin k0_t1_loop.trips) : BitVec 32 :=
  let c2_i32_382 : BitVec 32 := 2#32
  let c2_i32 : BitVec 32 := 2#32
  let c0_i32 : BitVec 32 := 0#32
  let c1_i32 : BitVec 32 := 1#32
  let arg9 : BitVec 32 := Scf.iv c0_i32 c1_i32 k0_t1
  let v430 : BitVec 32 := Scalar.muli c2_i32 arg9
  let v431 : BitVec 32 := Scalar.addi c2_i32_382 v430
  let c1280_i32 : BitVec 32 := 1280#32
  let v433 : BitVec 32 := Scalar.muli v431 c1280_i32
  v433
def k0_off1 (k0_t1 : Fin k0_t1_loop.trips) : Fin 3 → Nat :=
  let c0_384 : Index := 0#32
  let c2_i32_382 : BitVec 32 := 2#32
  let c2_i32 : BitVec 32 := 2#32
  let c0_i32 : BitVec 32 := 0#32
  let c1_i32 : BitVec 32 := 1#32
  let arg9 : BitVec 32 := Scf.iv c0_i32 c1_i32 k0_t1
  let v430 : BitVec 32 := Scalar.muli c2_i32 arg9
  let v431 : BitVec 32 := Scalar.addi c2_i32_382 v430
  let c1280_i32 : BitVec 32 := 1280#32
  let v433 : BitVec 32 := Scalar.muli v431 c1280_i32
  let v434 : BitVec 32 := v433
  let v435 : Index := Scalar.indexCast v434
  let c0_385 : Index := 0#32
  ![0, v435.toNat, 0]
def k0_mult2 (k0_t1 : Fin k0_t1_loop.trips) : BitVec 32 :=
  let c2_i32_382 : BitVec 32 := 2#32
  let c2_i32 : BitVec 32 := 2#32
  let c0_i32 : BitVec 32 := 0#32
  let c1_i32 : BitVec 32 := 1#32
  let arg9 : BitVec 32 := Scf.iv c0_i32 c1_i32 k0_t1
  let v430 : BitVec 32 := Scalar.muli c2_i32 arg9
  let v431 : BitVec 32 := Scalar.addi c2_i32_382 v430
  let c2_i32_454 : BitVec 32 := 2#32
  let v518 : BitVec 32 := Scalar.subi v431 c2_i32_454
  let c1280_i32_455 : BitVec 32 := 1280#32
  let v519 : BitVec 32 := Scalar.muli v518 c1280_i32_455
  v519
def k0_off2 (k0_t1 : Fin k0_t1_loop.trips) : Fin 3 → Nat :=
  let c0_456 : Index := 0#32
  let c0_457 : Index := 0#32
  let c2_i32_382 : BitVec 32 := 2#32
  let c2_i32 : BitVec 32 := 2#32
  let c0_i32 : BitVec 32 := 0#32
  let c1_i32 : BitVec 32 := 1#32
  let arg9 : BitVec 32 := Scf.iv c0_i32 c1_i32 k0_t1
  let v430 : BitVec 32 := Scalar.muli c2_i32 arg9
  let v431 : BitVec 32 := Scalar.addi c2_i32_382 v430
  let c2_i32_454 : BitVec 32 := 2#32
  let v518 : BitVec 32 := Scalar.subi v431 c2_i32_454
  let c1280_i32_455 : BitVec 32 := 1280#32
  let v519 : BitVec 32 := Scalar.muli v518 c1280_i32_455
  let v520 : BitVec 32 := v519
  let v521 : Index := Scalar.indexCast v520
  ![0, 0, v521.toNat]
def k0_mult3 (k0_t1 : Fin k0_t1_loop.trips) : BitVec 32 :=
  let c2_i32_382 : BitVec 32 := 2#32
  let c2_i32 : BitVec 32 := 2#32
  let c0_i32 : BitVec 32 := 0#32
  let c1_i32 : BitVec 32 := 1#32
  let arg9 : BitVec 32 := Scf.iv c0_i32 c1_i32 k0_t1
  let v430 : BitVec 32 := Scalar.muli c2_i32 arg9
  let v431 : BitVec 32 := Scalar.addi c2_i32_382 v430
  let c1_i32_383 : BitVec 32 := 1#32
  let v432 : BitVec 32 := Scalar.addi v431 c1_i32_383
  let c1280_i32_502 : BitVec 32 := 1280#32
  let v568 : BitVec 32 := Scalar.muli v432 c1280_i32_502
  v568
def k0_off3 (k0_t1 : Fin k0_t1_loop.trips) : Fin 3 → Nat :=
  let c0_503 : Index := 0#32
  let c2_i32_382 : BitVec 32 := 2#32
  let c2_i32 : BitVec 32 := 2#32
  let c0_i32 : BitVec 32 := 0#32
  let c1_i32 : BitVec 32 := 1#32
  let arg9 : BitVec 32 := Scf.iv c0_i32 c1_i32 k0_t1
  let v430 : BitVec 32 := Scalar.muli c2_i32 arg9
  let v431 : BitVec 32 := Scalar.addi c2_i32_382 v430
  let c1_i32_383 : BitVec 32 := 1#32
  let v432 : BitVec 32 := Scalar.addi v431 c1_i32_383
  let c1280_i32_502 : BitVec 32 := 1280#32
  let v568 : BitVec 32 := Scalar.muli v432 c1280_i32_502
  let v569 : BitVec 32 := v568
  let v570 : Index := Scalar.indexCast v569
  let c0_504 : Index := 0#32
  ![0, v570.toNat, 0]
def k0_mult4 (k0_t1 : Fin k0_t1_loop.trips) : BitVec 32 :=
  let c2_i32_382 : BitVec 32 := 2#32
  let c2_i32 : BitVec 32 := 2#32
  let c0_i32 : BitVec 32 := 0#32
  let c1_i32 : BitVec 32 := 1#32
  let arg9 : BitVec 32 := Scf.iv c0_i32 c1_i32 k0_t1
  let v430 : BitVec 32 := Scalar.muli c2_i32 arg9
  let v431 : BitVec 32 := Scalar.addi c2_i32_382 v430
  let c1_i32_383 : BitVec 32 := 1#32
  let v432 : BitVec 32 := Scalar.addi v431 c1_i32_383
  let c2_i32_573 : BitVec 32 := 2#32
  let v653 : BitVec 32 := Scalar.subi v432 c2_i32_573
  let c1280_i32_574 : BitVec 32 := 1280#32
  let v654 : BitVec 32 := Scalar.muli v653 c1280_i32_574
  v654
def k0_off4 (k0_t1 : Fin k0_t1_loop.trips) : Fin 3 → Nat :=
  let c0_575 : Index := 0#32
  let c0_576 : Index := 0#32
  let c2_i32_382 : BitVec 32 := 2#32
  let c2_i32 : BitVec 32 := 2#32
  let c0_i32 : BitVec 32 := 0#32
  let c1_i32 : BitVec 32 := 1#32
  let arg9 : BitVec 32 := Scf.iv c0_i32 c1_i32 k0_t1
  let v430 : BitVec 32 := Scalar.muli c2_i32 arg9
  let v431 : BitVec 32 := Scalar.addi c2_i32_382 v430
  let c1_i32_383 : BitVec 32 := 1#32
  let v432 : BitVec 32 := Scalar.addi v431 c1_i32_383
  let c2_i32_573 : BitVec 32 := 2#32
  let v653 : BitVec 32 := Scalar.subi v432 c2_i32_573
  let c1280_i32_574 : BitVec 32 := 1280#32
  let v654 : BitVec 32 := Scalar.muli v653 c1280_i32_574
  let v655 : BitVec 32 := v654
  let v656 : Index := Scalar.indexCast v655
  ![0, 0, v656.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16640x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x144x16640 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16384x8x128 : Shape := ⟨3, ![16384, 8, 128]⟩
abbrev S16384x8x64 : Shape := ⟨3, ![16384, 8, 64]⟩
abbrev S16640x8x128 : Shape := ⟨3, ![16640, 8, 128]⟩
abbrev S16640x64 : Shape := ⟨2, ![16640, 64]⟩
abbrev S8x16384x16640 : Shape := ⟨3, ![8, 16384, 16640]⟩
abbrev S16640x16384x8 : Shape := ⟨3, ![16640, 16384, 8]⟩
abbrev S_ : Shape := ⟨0, ![]⟩
abbrev S8x16384 : Shape := ⟨2, ![8, 16384]⟩
abbrev S8x16384x1 : Shape := ⟨3, ![8, 16384, 1]⟩
abbrev S8x128x16384 : Shape := ⟨3, ![8, 128, 16384]⟩
abbrev S16384x1024 : Shape := ⟨2, ![16384, 1024]⟩

abbrev nBuf : Space → Nat
  | .hbm => 30
  | .vmem => 0
  | .smem => 0
  | _ => 0

abbrev bufTy : (tb : Table) → Fin (tcTables nBuf tb) → BufTy
  | .hbm, ⟨0, _⟩ => ⟨S16384x8x128, .f32⟩
  | .hbm, ⟨1, _⟩ => ⟨S16384x8x64, .f32⟩
  | .hbm, ⟨2, _⟩ => ⟨S16640x8x128, .f32⟩
  | .hbm, ⟨3, _⟩ => ⟨S16640x64, .f32⟩
  | .hbm, ⟨4, _⟩ => ⟨S16640x8x128, .f32⟩
  | .hbm, ⟨5, _⟩ => ⟨S8x16384x16640, .f32⟩
  | .hbm, ⟨6, _⟩ => ⟨S16640x16384x8, .f32⟩
  | .hbm, ⟨7, _⟩ => ⟨S8x16384x16640, .f32⟩
  | .hbm, ⟨8, _⟩ => ⟨S8x16384x16640, .f32⟩
  | .hbm, ⟨9, _⟩ => ⟨S_, .f32⟩
  | .hbm, ⟨10, _⟩ => ⟨S8x16384x16640, .f32⟩
  | .hbm, ⟨11, _⟩ => ⟨S8x16384x16640, .f32⟩
  | .hbm, ⟨12, _⟩ => ⟨S_, .f32⟩
  | .hbm, ⟨13, _⟩ => ⟨S8x16384, .f32⟩
  | .hbm, ⟨14, _⟩ => ⟨S_, .f32⟩
  | .hbm, ⟨15, _⟩ => ⟨S8x16384, .f32⟩
  | .hbm, ⟨16, _⟩ => ⟨S8x16384, .f32⟩
  | .hbm, ⟨17, _⟩ => ⟨S8x16384x1, .f32⟩
  | .hbm, ⟨18, _⟩ => ⟨S8x16384x16640, .f32⟩
  | .hbm, ⟨19, _⟩ => ⟨S8x16384x16640, .f32⟩
  | .hbm, ⟨20, _⟩ => ⟨S8x16384x16640, .f32⟩
  | .hbm, ⟨21, _⟩ => ⟨S_, .f32⟩
  | .hbm, ⟨22, _⟩ => ⟨S8x16384, .f32⟩
  | .hbm, ⟨23, _⟩ => ⟨S8x16384x1, .f32⟩
  | .hbm, ⟨24, _⟩ => ⟨S8x16384x16640, .f32⟩
  | .hbm, ⟨25, _⟩ => ⟨S8x16384x16640, .f32⟩
  | .hbm, ⟨26, _⟩ => ⟨S8x128x16384, .f32⟩
  | .hbm, ⟨27, _⟩ => ⟨S16384x8x128, .f32⟩
  | .hbm, ⟨28, _⟩ => ⟨S16384x1024, .f32⟩
  | .hbm, ⟨29, _⟩ => ⟨S16384x1024, .bf16⟩
  | _, _ => ⟨S16384x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel2.lean ====
abbrev S16384x2048 : Shape := ⟨2, ![16384, 2048]⟩
abbrev S16x2048 : Shape := ⟨2, ![16, 2048]⟩
abbrev S2x16x2048x2048 : Shape := ⟨4, ![2, 16, 2048, 2048]⟩
abbrev S32768 : Shape := ⟨1, ![32768]⟩
abbrev S_ : Shape := ⟨0, ![]⟩
abbrev S32768x1 : Shape := ⟨2, ![32768, 1]⟩
abbrev S1 : Shape := ⟨1, ![1]⟩
abbrev S1x1 : Shape := ⟨2, ![1, 1]⟩
abbrev S32768x2048 : Shape := ⟨2, ![32768, 2048]⟩
abbrev S16x2048x2048 : Shape := ⟨3, ![16, 2048, 2048]⟩
abbrev S16x2048x1 : Shape := ⟨3, ![16, 2048, 1]⟩
abbrev S1x1024x2048 : Shape := ⟨3, ![1, 1024, 2048]⟩
abbrev S1x1x2048x256 : Shape := ⟨4, ![1, 1, 2048, 256]⟩
abbrev S1x1x256x2048 : Shape := ⟨4, ![1, 1, 256, 2048]⟩
abbrev S1x1024x1 : Shape := ⟨3, ![1, 1024, 1]⟩
abbrev S1024x2048 : Shape := ⟨2, ![1024, 2048]⟩
abbrev S2048x256 : Shape := ⟨2, ![2048, 256]⟩
abbrev S1024x256 : Shape := ⟨2, ![1024, 256]⟩
abbrev S256x2048 : Shape := ⟨2, ![256, 2048]⟩
abbrev S1024x1 : Shape := ⟨2, ![1024, 1]⟩

abbrev nBuf : Space → Nat
  | .hbm => 34
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S16x2048, .i32⟩
  | .hbm, ⟨2, _⟩ => ⟨S16x2048, .f32⟩
  | .hbm, ⟨3, _⟩ => ⟨S2x16x2048x2048, .f32⟩
  | .hbm, ⟨4, _⟩ => ⟨S2x16x2048x2048, .f32⟩
  | .hbm, ⟨5, _⟩ => ⟨S2x16x2048x2048, .f32⟩
  | .hbm, ⟨6, _⟩ => ⟨S16384x2048, .bf16⟩
  | .hbm, ⟨7, _⟩ => ⟨S32768, .i32⟩
  | .hbm, ⟨8, _⟩ => ⟨S_, .i32⟩
  | .hbm, ⟨9, _⟩ => ⟨S32768, .i32⟩
  | .hbm, ⟨10, _⟩ => ⟨S32768, .i1⟩
  | .hbm, ⟨11, _⟩ => ⟨S_, .i32⟩
  | .hbm, ⟨12, _⟩ => ⟨S32768, .i32⟩
  | .hbm, ⟨13, _⟩ => ⟨S32768, .i32⟩
  | .hbm, ⟨14, _⟩ => ⟨S32768, .i32⟩
  | .hbm, ⟨15, _⟩ => ⟨S32768x1, .i32⟩
  | .hbm, ⟨16, _⟩ => ⟨S1, .i32⟩
  | .hbm, ⟨17, _⟩ => ⟨S_, .i32⟩
  | .hbm, ⟨18, _⟩ => ⟨S32768x1, .i32⟩
  | .hbm, ⟨19, _⟩ => ⟨S32768x1, .i1⟩
  | .hbm, ⟨20, _⟩ => ⟨S1x1, .i32⟩
  | .hbm, ⟨21, _⟩ => ⟨S32768x1, .i32⟩
  | .hbm, ⟨22, _⟩ => ⟨S32768x1, .i1⟩
  | .hbm, ⟨23, _⟩ => ⟨S32768x1, .i1⟩
  | .hbm, ⟨24, _⟩ => ⟨S_, .i1⟩
  | .hbm, ⟨25, _⟩ => ⟨S32768, .i1⟩
  | .hbm, ⟨26, _⟩ => ⟨S32768x2048, .bf16⟩
  | .hbm, ⟨27, _⟩ => ⟨S32768x2048, .i1⟩
  | .hbm, ⟨28, _⟩ => ⟨S_, .bf16⟩
  | .hbm, ⟨29, _⟩ => ⟨S32768x2048, .bf16⟩
  | .hbm, ⟨30, _⟩ => ⟨S32768x2048, .bf16⟩
  | .hbm, ⟨31, _⟩ => ⟨S16x2048x2048, .bf16⟩
  | .hbm, ⟨32, _⟩ => ⟨S16x2048x1, .f32⟩
  | .hbm, ⟨33, _⟩ => ⟨S16x2048x2048, .bf16⟩
  | .local _ .vmem, ⟨0, _⟩ => ⟨S1x1024x2048, .bf16⟩
  | .local _ .vmem, ⟨1, _⟩ => ⟨S1x1024x2048, .bf16⟩
  | .local _ .vmem, ⟨2, _⟩ => ⟨S1x1x2048x256, .f32⟩
  | .local _ .vmem, ⟨3, _⟩ => ⟨S1x1x2048x256, .f32⟩
  | .local _ .vmem, ⟨4, _⟩ => ⟨S1x1x2048x256, .f32⟩
  | .local _ .vmem, ⟨5, _⟩ => ⟨S1x1x2048x256, .f32⟩
  | .local _ .vmem, ⟨6, _⟩ => ⟨S1x1x256x2048, .f32⟩
  | .local _ .vmem, ⟨7, _⟩ => ⟨S1x1x256x2048, .f32⟩
  | .local _ .vmem, ⟨8, _⟩ => ⟨S1x1024x1, .f32⟩
  | .local _ .vmem, ⟨9, _⟩ => ⟨S1x1024x1, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![16, 2, 8], ![false, false, false]⟩

def k0_cond2 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_23 : BitVec 32 := 0#32
  let v32 : BitVec 1 := Scalar.cmpi .ne v31 c0_i32_23
  v32

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat, arg2.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, arg2.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== Reference2Ideal.lean ====
abbrev S16384x2048 : Shape := ⟨2, ![16384, 2048]⟩
abbrev S16x2048 : Shape := ⟨2, ![16, 2048]⟩
abbrev S2x16x2048x2048 : Shape := ⟨4, ![2, 16, 2048, 2048]⟩
abbrev S_ : Shape := ⟨0, ![]⟩
abbrev S16x2048x1 : Shape := ⟨3, ![16, 2048, 1]⟩
abbrev S16x2048x2048 : Shape := ⟨3, ![16, 2048, 2048]⟩
abbrev S1x16x2048x2048 : Shape := ⟨4, ![1, 16, 2048, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S16x2048, .i32⟩
  | .hbm, ⟨2, _⟩ => ⟨S16x2048, .f32⟩
  | .hbm, ⟨3, _⟩ => ⟨S2x16x2048x2048, .f32⟩
  | .hbm, ⟨4, _⟩ => ⟨S2x16x2048x2048, .f32⟩
  | .hbm, ⟨5, _⟩ => ⟨S2x16x2048x2048, .f32⟩
  | .hbm, ⟨6, _⟩ => ⟨S_, .i32⟩
  | .hbm, ⟨7, _⟩ => ⟨S16x2048, .i32⟩
  | .hbm, ⟨8, _⟩ => ⟨S16x2048, .i1⟩
  | .hbm, ⟨9, _⟩ => ⟨S_, .i32⟩
  | .hbm, ⟨10, _⟩ => ⟨S16x2048, .i32⟩
  | .hbm, ⟨11, _⟩ => ⟨S16x2048, .i32⟩
  | .hbm, ⟨12, _⟩ => ⟨S16x2048, .i32⟩
  | .hbm, ⟨13, _⟩ => ⟨S16x2048x1, .i32⟩
  | .hbm, ⟨14, _⟩ => ⟨S16x2048x2048, .f32⟩
  | .hbm, ⟨15, _⟩ => ⟨S1x16x2048x2048, .f32⟩
  | .hbm, ⟨16, _⟩ => ⟨S16x2048x2048, .f32⟩
  | .hbm, ⟨17, _⟩ => ⟨S16x2048x2048, .f32⟩
  | .hbm, ⟨18, _⟩ => ⟨S1x16x2048x2048, .f32⟩
  | .hbm, ⟨19, _⟩ => ⟨S16x2048x2048, .f32⟩
  | .hbm, ⟨20, _⟩ => ⟨S16x2048x2048, .f32⟩
  | .hbm, ⟨21, _⟩ => ⟨S16x2048x2048, .f32⟩
  | .hbm, ⟨22, _⟩ => ⟨S16x2048x2048, .f32⟩
  | .hbm, ⟨23, _⟩ => ⟨S_, .f32⟩
  | .hbm, ⟨24, _⟩ => ⟨S16x2048x2048, .f32⟩
  | .hbm, ⟨25, _⟩ => ⟨S16x2048x2048, .f32⟩
  | .hbm, ⟨26, _⟩ => ⟨S_, .f32⟩
  | .hbm, ⟨27, _⟩ => ⟨S16x2048x2048, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S1x16x2048x2048, .f32⟩
  | .hbm, ⟨32, _⟩ => ⟨S16x2048x2048, .f32⟩
  | .hbm, ⟨33, _⟩ => ⟨S16x2048x2048, .f32⟩
  | .hbm, ⟨34, _⟩ => ⟨S16x2048x1, .f32⟩
  | .hbm, ⟨35, _⟩ => ⟨S16x2048x2048, .f32⟩
  | .hbm, ⟨36, _⟩ => ⟨S16x2048x2048, .f32⟩
  | .hbm, ⟨37, _⟩ => ⟨S16x2048x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_call0_v5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Proof.Body.lean ====
module

public import proofs.«01_k».proof.Proof.Gen.KernelIdeal.Loops
public import proofs.«01_k».proof.Proof.Gen.KernelIdeal.Frame

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What one grid point's staging buffers and scratch are: the whole buffer of a memref at given contents. -/
abbrev pt {sp : Space} {s : Shape} {e : EltTy} (c : Dev nD) (a : Memref sig .tc sp s e)
    (f : Buf (Elt F) (a.view.loc (c : Thread nD τ))) : sProp 𝕄 :=
  (a.view.loc (c : Thread nD τ) ↦[a.view.set]{fullShare} f)

/-- One grid point's run: from the three input blocks and any contents of the result block and the three scratch
buffers, the body ends with the inputs as they were, the scratch at some contents, and the result block written with
the pieces the run finds. -/
def bodyRun (c : Dev nD) (i : grid0.Coords) (arg2 : Memref sig .tc .vmem S1x256x1024 .bf16) (harg2 : arg2.IsWhole)
    (arg3 : Memref sig .tc .vmem S1x16640x256 .bf16) (harg3 : arg3.IsWhole)
    (arg4 : Memref sig .tc .vmem S1x144x16640 .bf16) (harg4 : arg4.IsWhole)
    (arg5 : Memref sig .tc .vmem S1024x128 .bf16) (harg5 : arg5.IsWhole)
    (arg6 : Memref sig .tc .vmem S2x4x1280x256 .f32) (harg6 : arg6.IsWhole)
    (arg7 : Memref sig .tc .vmem S2x4x1280x256 .bf16) (harg7 : arg7.IsWhole)
    (arg8 : Memref sig .tc .vmem S4x144x256 .f32) (harg8 : arg8.IsWhole)
    (X2 : BufTy.Contents (Elt F) arg2.view.ty) (X3 : BufTy.Contents (Elt F) arg3.view.ty)
    (X4 : BufTy.Contents (Elt F) arg4.view.ty) (f6 : BufTy.Contents (Elt F) arg6.view.ty)
    (f7 : BufTy.Contents (Elt F) arg7.view.ty) (f8 : BufTy.Contents (Elt F) arg8.view.ty) :
    { L5 : List (View.Piece (Elt F) S1024x128 .bf16) //
      ∀ (f5 : BufTy.Contents (Elt F) arg5.view.ty) (K : PUnit → sProp 𝕄),
        iprop(pt (F := F) c arg2 X2 ∗ pt (F := F) c arg3 X3 ∗ pt (F := F) c arg4 X4 ∗ pt (F := F) c arg5 f5
            ∗ pt (F := F) c arg6 f6 ∗ pt (F := F) c arg7 f7 ∗ pt (F := F) c arg8 f8
            ∗ (iprop(pt (F := F) c arg2 X2 ∗ pt (F := F) c arg3 X3 ∗ pt (F := F) c arg4 X4
                ∗ pt (F := F) c arg5 (arg5.view.writes (Elt F) f5 L5)
                ∗ (∃ f, pt (F := F) c arg6 f) ∗ (∃ f, pt (F := F) c arg7 f) ∗ (∃ f, pt (F := F) c arg8 f)) -∗ K ⟨⟩))
          ⊢ wp frame (wpE (defs₀ (F := F)) Variants.none (c : Thread nD τ) none) Set.univ
              (cc0_mla_attention (F := F) i arg2 harg2 arg3 harg3 arg4 harg4 arg5 harg5 arg6 harg6 arg7 harg7 arg8 harg8) K } := by
  refine ⟨?_, fun f5 K => ?run⟩
  case run =>
    simp only [cc0_mla_attention_eq_skeleton]; unfold cc0_mla_attention_skel
    iintro ⟨H2, H3, H4, H5, H6, H7, H8, Hk⟩
    sl_exec
    sl_step
    iapply Hk
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

end Cert.KernelIdeal.Attn

end
-- ==== Proof.Recur.lean ====
module

public import proofs.«01_k».proof.Proof.Gen.KernelIdeal.Skeleton
public import Idealize.ShloMosaic.Lib.Exec
public import Idealize.ShloMosaic.Lib.WritesUnit
public import Idealize.ShloMosaic.Lib.VecWindow

/-!
  The streaming softmax of one grid point as a recursion over the key chunks.

  A grid point holds 1024 queries in four sub-blocks of 256, all keys and all values of one head. The kernel walks the
  13 chunks of 1280 keys; per sub-block it keeps the running maximum, and an accumulator whose rows 0..127 are the
  weighted values and whose row 128 is the sum of the weights. This module states that walk as plain recursions, and
  says how a slot of the three scratch buffers reads after a store to it or to another slot.
-/

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

variable {F : FTy → Type} [FloatOps F]

/-! ## The chunks -/

/-- Sub-block `u` of the queries: columns `256u .. 256u+255`. -/
def qSub (X : Vec F S1x256x1024 .bf16) (u : Fin 4) : Vec F S1x256x256 .bf16 :=
  VecWindow.window X ![0, 0, 256 * u.val] S1x256x256.size (by
    intro a; have := u.isLt; fin_cases a <;> simp <;> omega)

/-- Chunk `t` of the keys: rows `1280t .. 1280t+1279`. -/
def kChunk (X : Vec F S1x16640x256 .bf16) (t : ℕ) : Vec F S1x1280x256 .bf16 :=
  VecWindow.window X ![0, 1280 * (t % 13), 0] S1x1280x256.size (by
    intro a; have := Nat.mod_lt t (show 0 < 13 by decide); fin_cases a <;> simp <;> omega)

/-- Chunk `t` of the values: columns `1280t .. 1280t+1279`. -/
def vChunk (X : Vec F S1x144x16640 .bf16) (t : ℕ) : Vec F S1x144x1280 .bf16 :=
  VecWindow.window X ![0, 0, 1280 * (t % 13)] S1x144x1280.size (by
    intro a; have := Nat.mod_lt t (show 0 < 13 by decide); fin_cases a <;> simp <;> omega)

/-! ## The recursion -/

/-- The scores of chunk `t`. -/
def scoreAt (K : ℕ → Vec F S1x1280x256 .bf16) (Q : Vec F S1x256x256 .bf16) (t : ℕ) : FVec F S1x1x1280x256 .f32 :=
  k0_pay5 (K t) Q

/-- The running maximum before chunk `t`. -/
def maxAt (K : ℕ → Vec F S1x1280x256 .bf16) (Q : Vec F S1x256x256 .bf16) : ℕ → FVec F S1x256 .f32
  | 0 => k0_pay59
  | t + 1 => k0_pay6 (maxAt K Q t) (K t) Q

/-- The factor the accumulator is scaled by at chunk `t`. -/
def scaleAt (K : ℕ → Vec F S1x1280x256 .bf16) (Q : Vec F S1x256x256 .bf16) (t : ℕ) : FVec F S1x256 .f32 :=
  k0_pay7 (maxAt K Q t) (K t) Q

/-- The weights of chunk `t`, relative to the running maximum after it. -/
def weightAt (K : ℕ → Vec F S1x1280x256 .bf16) (Q : Vec F S1x256x256 .bf16) (t : ℕ) : FVec F S1x1x1280x256 .bf16 :=
  k0_pay20 (maxAt K Q (t + 1)) (scoreAt K Q t)

/-- The accumulator at the start: zero. -/
def accInit : FVec F S1x144x256 .f32 := fun _ => Scalar.ofBits .f32 0x00000000#32

/-- The accumulator before chunk `t`. -/
def accAt (K : ℕ → Vec F S1x1280x256 .bf16) (V : ℕ → Vec F S1x144x1280 .bf16) (Q : Vec F S1x256x256 .bf16) :
    ℕ → FVec F S1x144x256 .f32
  | 0 => accInit
  | t + 1 => k0_pay25 (scaleAt K Q t) (V t) (accAt K V Q t) (weightAt K Q t)

/-- Rows 0..127 of an accumulator. -/
def accRows (a : FVec F S1x144x256 .f32) : Vec F S1x128x256 .f32 :=
  VecWindow.window a ![0, 0, 0] S1x128x256.size (by decide)

/-- Row 128 of an accumulator. -/
def accDen (a : FVec F S1x144x256 .f32) : Vec F S1x1x256 .f32 :=
  VecWindow.window a ![0, 128, 0] S1x1x256.size (by decide)

/-- What sub-block `u` of the queries gives: the accumulator after all chunks, divided by its row 128 and transposed. -/
def outSub (X2 : Vec F S1x256x1024 .bf16) (X3 : Vec F S1x16640x256 .bf16) (X4 : Vec F S1x144x16640 .bf16) (u : Fin 4) :
    FVec F S256x128 .bf16 :=
  k0_pay2 (accRows (accAt (kChunk X3) (vChunk X4) (qSub X2 u) 13)) (accDen (accAt (kChunk X3) (vChunk X4) (qSub X2 u) 13))

/-! ## Slots of the scratch buffers -/

/-- Slot `(p, u)` of a score or weight buffer. -/
abbrev r6 (p : Fin 2) (u : Fin 4) : Rect S2x4x1280x256 :=
  Rect.unit ![p.val, u.val, 0, 0] S1x1x1280x256.size (by
    intro a; have := p.isLt; have := u.isLt; fin_cases a <;> simp <;> omega)

/-- Slot `u` of the accumulator buffer. -/
abbrev r8 (u : Fin 4) : Rect S4x144x256 :=
  Rect.unit ![u.val, 0, 0] S1x144x256.size (by
    intro a; have := u.isLt; fin_cases a <;> simp <;> omega)

/-- Rows 0..127 of slot `u` of the accumulator buffer. -/
abbrev r8rows (u : Fin 4) : Rect S4x144x256 :=
  Rect.unit ![u.val, 0, 0] S1x128x256.size (by
    intro a; have := u.isLt; fin_cases a <;> simp <;> omega)

/-- Row 128 of slot `u` of the accumulator buffer. -/
abbrev r8den (u : Fin 4) : Rect S4x144x256 :=
  Rect.unit ![u.val, 128, 0] S1x1x256.size (by
    intro a; have := u.isLt; fin_cases a <;> simp <;> omega)

theorem fin4 : ∀ u : Fin 4, u = 0 ∨ u = 1 ∨ u = 2 ∨ u = 3 := by decide

section Slots

variable {Val : EltTy → Type} {sp : Space} {e : EltTy}

theorem hit {s : Shape} (v : View sig .tc sp s e) (f : v.ty.Contents Val) (r : Rect s)
    (w : r.shape.Idx → Val e) (L : List (View.Piece Val s e)) :
    v.readAt Val r.toLoadRect (v.writes Val f (⟨r, w⟩ :: L)) = w :=
  funext fun x => View.read_writes_cons_emb v f r w L x

theorem miss6 (v : View sig .tc sp S2x4x1280x256 e) (f : v.ty.Contents Val) (p p' : Fin 2) (u u' : Fin 4)
    (h : p ≠ p' ∨ u ≠ u') (w : (r6 p' u').shape.Idx → Val e) (L : List (View.Piece Val S2x4x1280x256 e)) :
    v.readAt Val (r6 p u).toLoadRect (v.writes Val f (⟨r6 p' u', w⟩ :: L))
      = v.readAt Val (r6 p u).toLoadRect (v.writes Val f L) := by
  funext x
  rcases h with h | h
  · refine View.read_writes_cons_unit_of_not_mem v f _ w L _ rfl (0 : Fin 4) ?_
    have h0 : (x (0 : Fin 4)).val < 1 := (x (0 : Fin 4)).isLt
    have h' : p.val ≠ p'.val := fun e => h (Fin.ext e)
    show p.val + 1 * (x (0 : Fin 4)).val < p'.val ∨ p'.val + 1 ≤ p.val + 1 * (x (0 : Fin 4)).val
    omega
  · refine View.read_writes_cons_unit_of_not_mem v f _ w L _ rfl (1 : Fin 4) ?_
    have h0 : (x (1 : Fin 4)).val < 1 := (x (1 : Fin 4)).isLt
    have h' : u.val ≠ u'.val := fun e => h (Fin.ext e)
    show u.val + 1 * (x (1 : Fin 4)).val < u'.val ∨ u'.val + 1 ≤ u.val + 1 * (x (1 : Fin 4)).val
    omega

theorem miss8 (v : View sig .tc sp S4x144x256 e) (f : v.ty.Contents Val) (o n : ℕ) (u u' : Fin 4)
    (inb : ∀ a, (![u.val, o, 0] : Fin 3 → ℕ) a + (![1, n, 256] : Fin 3 → ℕ) a ≤ S4x144x256.size a)
    (h : u ≠ u') (w : (r8 u').shape.Idx → Val e) (L : List (View.Piece Val S4x144x256 e)) :
    v.readAt Val (Rect.unit (s := S4x144x256) ![u.val, o, 0] ![1, n, 256] inb).toLoadRect (v.writes Val f (⟨r8 u', w⟩ :: L))
      = v.readAt Val (Rect.unit (s := S4x144x256) ![u.val, o, 0] ![1, n, 256] inb).toLoadRect (v.writes Val f L) := by
  funext x
  refine View.read_writes_cons_unit_of_not_mem v f _ w L _ rfl (0 : Fin 3) ?_
  have h0 : (x (0 : Fin 3)).val < 1 := (x (0 : Fin 3)).isLt
  have h' : u.val ≠ u'.val := fun e => h (Fin.ext e)
  show u.val + 1 * (x (0 : Fin 3)).val < u'.val ∨ u'.val + 1 ≤ u.val + 1 * (x (0 : Fin 3)).val
  omega

theorem miss8r (v : View sig .tc sp S4x144x256 e) (f : v.ty.Contents Val) (u u' : Fin 4)
    (h : u ≠ u') (w : (r8 u').shape.Idx → Val e) (L : List (View.Piece Val S4x144x256 e)) :
    v.readAt Val (r8 u).toLoadRect (v.writes Val f (⟨r8 u', w⟩ :: L))
      = v.readAt Val (r8 u).toLoadRect (v.writes Val f L) :=
  miss8 v f 0 144 u u' _ h w L

/-- A part of a slot of the accumulator buffer, read after a store to the whole slot. -/
theorem part8 (v : View sig .tc sp S4x144x256 e) (f : v.ty.Contents Val) (o n : ℕ) (u : Fin 4)
    (inb : ∀ a, (![u.val, o, 0] : Fin 3 → ℕ) a + (![1, n, 256] : Fin 3 → ℕ) a ≤ S4x144x256.size a)
    (inb' : ∀ a, (![0, o, 0] : Fin 3 → ℕ) a + (![1, n, 256] : Fin 3 → ℕ) a ≤ S1x144x256.size a)
    (w : S1x144x256.Idx → Val e) (L : List (View.Piece Val S4x144x256 e)) :
    v.readAt Val (Rect.unit (s := S4x144x256) ![u.val, o, 0] ![1, n, 256] inb).toLoadRect (v.writes Val f (⟨r8 u, w⟩ :: L))
      = VecWindow.window (s := S1x144x256) w ![0, o, 0] ![1, n, 256] inb' := by
  funext x
  refine View.read_writes_cons_unit_of_mem v f _ w L _ _ rfl ?_
  intro a
  fin_cases a
  · show u.val + 1 * (x (0 : Fin 3)).val = u.val + (0 + 1 * (x (0 : Fin 3)).val); omega
  · show o + 1 * (x (1 : Fin 3)).val = 0 + (o + 1 * (x (1 : Fin 3)).val); omega
  · show 0 + 1 * (x (2 : Fin 3)).val = 0 + (0 + 1 * (x (2 : Fin 3)).val); omega

theorem miss8rows (v : View sig .tc sp S4x144x256 e) (f : v.ty.Contents Val) (u u' : Fin 4)
    (h : u ≠ u') (w : (r8 u').shape.Idx → Val e) (L : List (View.Piece Val S4x144x256 e)) :
    v.readAt Val (r8rows u).toLoadRect (v.writes Val f (⟨r8 u', w⟩ :: L))
      = v.readAt Val (r8rows u).toLoadRect (v.writes Val f L) :=
  miss8 v f 0 128 u u' _ h w L

theorem part8rows (v : View sig .tc sp S4x144x256 .f32) (f : v.ty.Contents (Elt F)) (u : Fin 4)
    (w : FVec F S1x144x256 .f32) (L : List (View.Piece (Elt F) S4x144x256 .f32)) :
    v.readAt (Elt F) (r8rows u).toLoadRect (v.writes (Elt F) f (⟨r8 u, w⟩ :: L)) = accRows w :=
  part8 v f 0 128 u _ _ w L

theorem miss8den (v : View sig .tc sp S4x144x256 e) (f : v.ty.Contents Val) (u u' : Fin 4)
    (h : u ≠ u') (w : (r8 u').shape.Idx → Val e) (L : List (View.Piece Val S4x144x256 e)) :
    v.readAt Val (r8den u).toLoadRect (v.writes Val f (⟨r8 u', w⟩ :: L))
      = v.readAt Val (r8den u).toLoadRect (v.writes Val f L) :=
  miss8 v f 128 1 u u' _ h w L

theorem part8den (v : View sig .tc sp S4x144x256 .f32) (f : v.ty.Contents (Elt F)) (u : Fin 4)
    (w : FVec F S1x144x256 .f32) (L : List (View.Piece (Elt F) S4x144x256 .f32)) :
    v.readAt (Elt F) (r8den u).toLoadRect (v.writes (Elt F) f (⟨r8 u, w⟩ :: L)) = accDen w :=
  part8 v f 128 1 u _ _ w L

end Slots

end Cert.KernelIdeal.Attn
-- ==== Proof.TripLists.lean ====
module

public import proofs.«01_k».proof.Proof.Recur
public import proofs.«01_k».proof.Proof.Gen.KernelIdeal.Loops
import all proofs.«01_k».proof.Proof.Gen.KernelIdeal.Loops

/-!
  One trip of the kernel's loop, as lists of stores.

  A trip does two chunks: it computes the scores of chunks `2k+2` and `2k+3`, the weights of chunks `2k+1` and `2k+2`,
  and adds chunks `2k` and `2k+1` to the accumulators. This module names the stores it makes to the three scratch
  buffers, and says what holds before trip `k` (`Good`).
-/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The carried values: four running maxima, the four newest scale factors, the four before them. -/
abbrev Carry (F : FTy → Type) := FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32 × FVec F S1x256 .f32

/-- What holds before trip `k`: per sub-block `u`, slot `(1, u)` of the score buffer has the scores of chunk `2k+1`, slot
`(0, u)` of the weight buffer the weights of chunk `2k`, slot `u` of the accumulator the sum of the chunks before `2k`. -/
structure Good (K : ℕ → Vec F S1x1280x256 .bf16) (V : ℕ → Vec F S1x144x1280 .bf16) (Q : Fin 4 → Vec F S1x256x256 .bf16)
    (arg6 : Memref sig .tc .vmem S2x4x1280x256 .f32) (arg7 : Memref sig .tc .vmem S2x4x1280x256 .bf16)
    (arg8 : Memref sig .tc .vmem S4x144x256 .f32) (k : ℕ) (acc : Carry F) (f6 : BufTy.Contents (Elt F) arg6.view.ty)
    (f7 : BufTy.Contents (Elt F) arg7.view.ty) (f8 : BufTy.Contents (Elt F) arg8.view.ty) : Prop where
  m0 : acc.1 = maxAt K (Q 0) (2 * k + 2)
  m1 : acc.2.1 = maxAt K (Q 1) (2 * k + 2)
  m2 : acc.2.2.1 = maxAt K (Q 2) (2 * k + 2)
  m3 : acc.2.2.2.1 = maxAt K (Q 3) (2 * k + 2)
  a0 : acc.2.2.2.2.1 = scaleAt K (Q 0) (2 * k + 1)
  a1 : acc.2.2.2.2.2.1 = scaleAt K (Q 1) (2 * k + 1)
  a2 : acc.2.2.2.2.2.2.1 = scaleAt K (Q 2) (2 * k + 1)
  a3 : acc.2.2.2.2.2.2.2.1 = scaleAt K (Q 3) (2 * k + 1)
  b0 : acc.2.2.2.2.2.2.2.2.1 = scaleAt K (Q 0) (2 * k)
  b1 : acc.2.2.2.2.2.2.2.2.2.1 = scaleAt K (Q 1) (2 * k)
  b2 : acc.2.2.2.2.2.2.2.2.2.2.1 = scaleAt K (Q 2) (2 * k)
  b3 : acc.2.2.2.2.2.2.2.2.2.2.2 = scaleAt K (Q 3) (2 * k)
  s : ∀ u : Fin 4, arg6.view.readAt (Elt F) (r6 1 u).toLoadRect f6 = scoreAt K (Q u) (2 * k + 1)
  p : ∀ u : Fin 4, arg7.view.readAt (Elt F) (r6 0 u).toLoadRect f7 = weightAt K (Q u) (2 * k)
  c : ∀ u : Fin 4, arg8.view.readAt (Elt F) (r8 u).toLoadRect f8 = accAt K V (Q u) (2 * k)

section Trip

variable (𝒱 : Variants) (c : Dev nD) (bd : Option 𝒱.V) (i : grid0.Coords) (arg2 : Memref sig .tc .vmem S1x256x1024 .bf16) (harg2 : arg2.IsWhole) (arg3 : Memref sig .tc .vmem S1x16640x256 .bf16) (harg3 : arg3.IsWhole) (arg4 : Memref sig .tc .vmem S1x144x16640 .bf16) (harg4 : arg4.IsWhole) (arg5 : Memref sig .tc .vmem S1024x128 .bf16) (harg5 : arg5.IsWhole) (arg6 : Memref sig .tc .vmem S2x4x1280x256 .f32) (harg6 : arg6.IsWhole) (arg7 : Memref sig .tc .vmem S2x4x1280x256 .bf16) (harg7 : arg7.IsWhole) (arg8 : Memref sig .tc .vmem S4x144x256 .f32) (harg8 : arg8.IsWhole) (v20 : FVec F S1x256 .f32) (v31 : FVec F S1x256 .f32) (v42 : FVec F S1x256 .f32) (v51 : FVec F S1x256 .f32) (v53 : FVec F S1x256 .f32) (v64 : FVec F S1x256 .f32) (v66 : FVec F S1x256 .f32) (v75 : FVec F S1x256 .f32) (v77 : FVec F S1x256 .f32) (v86 : FVec F S1x256 .f32) (v88 : FVec F S1x256 .f32) (v97 : FVec F S1x256 .f32) (v99 : FVec F S1x256 .f32) (v119 : FVec F S1280x256 .f32) (v120 : FVec F S1280x256 .f32) (X_arg2 : BufTy.Contents (Elt F) arg2.view.ty) (X_arg3 : BufTy.Contents (Elt F) arg3.view.ty) (X_arg4 : BufTy.Contents (Elt F) arg4.view.ty)

/-- The score slots a trip writes, newest first. -/
def scoreList (Ka Kb : Vec F S1x1280x256 .bf16) (Q : Fin 4 → Vec F S1x256x256 .bf16) :
    List (View.Piece (Elt F) S2x4x1280x256 .f32) :=
  [⟨r6 1 3, k0_pay5 Kb (Q 3)⟩,
   ⟨r6 1 2, k0_pay5 Kb (Q 2)⟩,
   ⟨r6 1 1, k0_pay5 Kb (Q 1)⟩,
   ⟨r6 1 0, k0_pay5 Kb (Q 0)⟩,
   ⟨r6 0 3, k0_pay5 Ka (Q 3)⟩,
   ⟨r6 0 2, k0_pay5 Ka (Q 2)⟩,
   ⟨r6 0 1, k0_pay5 Ka (Q 1)⟩,
   ⟨r6 0 0, k0_pay5 Ka (Q 0)⟩]

/-- The weight slots a trip writes, newest first, from the running maxima (`ma` entering, `mb` after the trip's first
chunk), the scores it found and the scores it made. -/
def weightList (ma mb : Fin 4 → FVec F S1x256 .f32) (sa sb : Fin 4 → Vec F S1x1x1280x256 .f32) :
    List (View.Piece (Elt F) S2x4x1280x256 .bf16) :=
  [⟨r6 0 3, k0_pay20 (mb 3) (sb 3)⟩,
   ⟨r6 0 2, k0_pay20 (mb 2) (sb 2)⟩,
   ⟨r6 0 1, k0_pay20 (mb 1) (sb 1)⟩,
   ⟨r6 0 0, k0_pay20 (mb 0) (sb 0)⟩,
   ⟨r6 1 3, k0_pay20 (ma 3) (sa 3)⟩,
   ⟨r6 1 2, k0_pay20 (ma 2) (sa 2)⟩,
   ⟨r6 1 1, k0_pay20 (ma 1) (sa 1)⟩,
   ⟨r6 1 0, k0_pay20 (ma 0) (sa 0)⟩]

/-- The accumulator slots the first half of a trip writes, newest first. -/
def accList (a : Fin 4 → FVec F S1x256 .f32) (V : Vec F S1x144x1280 .bf16) (c : Fin 4 → Vec F S1x144x256 .f32)
    (w : Fin 4 → Vec F S1x1x1280x256 .bf16) : List (View.Piece (Elt F) S4x144x256 .f32) :=
  [⟨r8 3, k0_pay25 (a 3) V (c 3) (w 3)⟩,
   ⟨r8 2, k0_pay25 (a 2) V (c 2) (w 2)⟩,
   ⟨r8 1, k0_pay25 (a 1) V (c 1) (w 1)⟩,
   ⟨r8 0, k0_pay25 (a 0) V (c 0) (w 0)⟩]

/-- One more store to the accumulator buffer: slot `u`, from what its earlier stores `L` left there. -/
def accPush (arg8 : Memref sig .tc .vmem S4x144x256 .f32) (a : Fin 4 → FVec F S1x256 .f32) (V : Vec F S1x144x1280 .bf16)
    (w : Fin 4 → Vec F S1x1x1280x256 .bf16) (u : Fin 4) (L : List (View.Piece (Elt F) S4x144x256 .f32)) :
    List (View.Piece (Elt F) S4x144x256 .f32) :=
  ⟨r8 u, k0_pay25 (a u) V (arg8.view.readCov L (r8 u).toLoadRect) (w u)⟩ :: L

/-- The accumulator slots the second half of a trip adds, newest first. -/
def accList2 (arg8 : Memref sig .tc .vmem S4x144x256 .f32) (a : Fin 4 → FVec F S1x256 .f32) (V : Vec F S1x144x1280 .bf16)
    (w : Fin 4 → Vec F S1x1x1280x256 .bf16) (L : List (View.Piece (Elt F) S4x144x256 .f32)) :
    List (View.Piece (Elt F) S4x144x256 .f32) :=
  accPush arg8 a V w 3 (accPush arg8 a V w 2 (accPush arg8 a V w 1 (accPush arg8 a V w 0 L)))

/-- The queries, and the chunks a trip loads. -/
abbrev tq (u : Fin 4) : Vec F S1x256x256 .bf16 := qSub (arg2.view.read (Elt F) X_arg2) u
abbrev tk (t : ℕ) : Vec F S1x1280x256 .bf16 := kChunk (arg3.view.read (Elt F) X_arg3) t
abbrev tv (t : ℕ) : Vec F S1x144x1280 .bf16 := vChunk (arg4.view.read (Elt F) X_arg4) t

/-- The four maxima, newest factors and older factors of a carried value. -/
def cm (acc : Carry F) : Fin 4 → FVec F S1x256 .f32 := ![acc.1, acc.2.1, acc.2.2.1, acc.2.2.2.1]
def ca (acc : Carry F) : Fin 4 → FVec F S1x256 .f32 :=
  ![acc.2.2.2.2.1, acc.2.2.2.2.2.1, acc.2.2.2.2.2.2.1, acc.2.2.2.2.2.2.2.1]
def cb (acc : Carry F) : Fin 4 → FVec F S1x256 .f32 :=
  ![acc.2.2.2.2.2.2.2.2.1, acc.2.2.2.2.2.2.2.2.2.1, acc.2.2.2.2.2.2.2.2.2.2.1, acc.2.2.2.2.2.2.2.2.2.2.2]

/-- The four query loads as the trip makes them. -/
def lq : Fin 4 → Vec F S1x256x256 .bf16 :=
  ![arg2.view.readAt (Elt F) (Rect.unit (s := S1x256x1024) ![0, 0, 0] S1x256x256.size inb_S1x256x1024_S1x256x256_0_0_0).toLoadRect X_arg2,
    arg2.view.readAt (Elt F) (Rect.unit (s := S1x256x1024) ![0, 0, 256] S1x256x256.size inb_S1x256x1024_S1x256x256_0_0_256).toLoadRect X_arg2,
    arg2.view.readAt (Elt F) (Rect.unit (s := S1x256x1024) ![0, 0, 512] S1x256x256.size inb_S1x256x1024_S1x256x256_0_0_512).toLoadRect X_arg2,
    arg2.view.readAt (Elt F) (Rect.unit (s := S1x256x1024) ![0, 0, 768] S1x256x256.size inb_S1x256x1024_S1x256x256_0_0_768).toLoadRect X_arg2]
def la (k : Fin k0_t1_loop.trips) : Vec F S1x1280x256 .bf16 :=
  arg3.view.readAt (Elt F) (Rect.unit (s := S1x16640x256) (k0_off1 k) S1x1280x256.size (k0_off1_inb k)).toLoadRect X_arg3
def lb (k : Fin k0_t1_loop.trips) : Vec F S1x1280x256 .bf16 :=
  arg3.view.readAt (Elt F) (Rect.unit (s := S1x16640x256) (k0_off3 k) S1x1280x256.size (k0_off3_inb k)).toLoadRect X_arg3
def lva (k : Fin k0_t1_loop.trips) : Vec F S1x144x1280 .bf16 :=
  arg4.view.readAt (Elt F) (Rect.unit (s := S1x144x16640) (k0_off2 k) S1x144x1280.size (k0_off2_inb k)).toLoadRect X_arg4
def lvb (k : Fin k0_t1_loop.trips) : Vec F S1x144x1280 .bf16 :=
  arg4.view.readAt (Elt F) (Rect.unit (s := S1x144x16640) (k0_off4 k) S1x144x1280.size (k0_off4_inb k)).toLoadRect X_arg4

theorem lq_eq : lq (F := F) arg2 X_arg2 = tq (F := F) arg2 X_arg2 := by
  funext u
  fin_cases u <;> rfl

theorem la_eq (k : Fin k0_t1_loop.trips) : la (F := F) arg3 X_arg3 k = tk (F := F) arg3 X_arg3 (2 * k.val + 2) :=
  View.readAt_unit _ _ _ (by
    have hk : k.val < 5 := Nat.lt_of_lt_of_le k.isLt k0_t1_abs.2.1
    rw [k0_off1_eq, Nat.mod_eq_of_lt (by omega : 2 * k.val + 2 < 13)]; congr 2; omega) _

theorem lb_eq (k : Fin k0_t1_loop.trips) : lb (F := F) arg3 X_arg3 k = tk (F := F) arg3 X_arg3 (2 * k.val + 3) :=
  View.readAt_unit _ _ _ (by
    have hk : k.val < 5 := Nat.lt_of_lt_of_le k.isLt k0_t1_abs.2.1
    rw [k0_off3_eq, Nat.mod_eq_of_lt (by omega : 2 * k.val + 3 < 13)]; congr 2; omega) _

theorem lva_eq (k : Fin k0_t1_loop.trips) : lva (F := F) arg4 X_arg4 k = tv (F := F) arg4 X_arg4 (2 * k.val) :=
  View.readAt_unit _ _ _ (by
    have hk : k.val < 5 := Nat.lt_of_lt_of_le k.isLt k0_t1_abs.2.1
    rw [k0_off2_eq, Nat.mod_eq_of_lt (by omega : 2 * k.val < 13)]; congr 3; omega) _

theorem lvb_eq (k : Fin k0_t1_loop.trips) : lvb (F := F) arg4 X_arg4 k = tv (F := F) arg4 X_arg4 (2 * k.val + 1) :=
  View.readAt_unit _ _ _ (by
    have hk : k.val < 5 := Nat.lt_of_lt_of_le k.isLt k0_t1_abs.2.1
    rw [k0_off4_eq, Nat.mod_eq_of_lt (by omega : 2 * k.val + 1 < 13)]; congr 3; omega) _

/-- The running maxima after a trip's first chunk. -/
def midMax (k : Fin k0_t1_loop.trips) (acc : Carry F) (u : Fin 4) : FVec F S1x256 .f32 :=
  k0_pay6 (cm acc u) (la (F := F) arg3 X_arg3 k) (lq (F := F) arg2 X_arg2 u)

theorem trip_scores (k : Fin k0_t1_loop.trips) (acc : Carry F) (f6 : BufTy.Contents (Elt F) arg6.view.ty)
    (f7 : BufTy.Contents (Elt F) arg7.view.ty) (f8 : BufTy.Contents (Elt F) arg8.view.ty) :
    (tripL_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 k acc f6 f7 f8).1
      = scoreList (la (F := F) arg3 X_arg3 k) (lb (F := F) arg3 X_arg3 k) (lq (F := F) arg2 X_arg2) := by
  unfold tripL_k0_t1 trip_k0_t1
  rfl

theorem trip_weights (k : Fin k0_t1_loop.trips) (acc : Carry F) (f6 : BufTy.Contents (Elt F) arg6.view.ty)
    (f7 : BufTy.Contents (Elt F) arg7.view.ty) (f8 : BufTy.Contents (Elt F) arg8.view.ty) :
    (tripL_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 k acc f6 f7 f8).2.1
      = weightList (cm acc) (midMax arg2 arg3 X_arg2 X_arg3 k acc) (fun u => arg6.view.readAt (Elt F) (r6 1 u).toLoadRect f6)
          (fun u => arg6.view.readCov (scoreList (la (F := F) arg3 X_arg3 k) (lb (F := F) arg3 X_arg3 k)
            (lq (F := F) arg2 X_arg2)) (r6 0 u).toLoadRect) := by
  unfold tripL_k0_t1 trip_k0_t1
  rfl

/-- The scores a trip's first half wrote, as its second half finds them. -/
def foundScores (k : Fin k0_t1_loop.trips) (u : Fin 4) : Vec F S1x1x1280x256 .f32 :=
  arg6.view.readCov (scoreList (la (F := F) arg3 X_arg3 k) (lb (F := F) arg3 X_arg3 k)
    (lq (F := F) arg2 X_arg2)) (r6 0 u).toLoadRect

/-- The weight slots of a trip. -/
def tripWeightList (k : Fin k0_t1_loop.trips) (acc : Carry F) (f6 : BufTy.Contents (Elt F) arg6.view.ty) :
    List (View.Piece (Elt F) S2x4x1280x256 .bf16) :=
  weightList (cm acc) (midMax arg2 arg3 X_arg2 X_arg3 k acc) (fun u => arg6.view.readAt (Elt F) (r6 1 u).toLoadRect f6)
    (foundScores arg2 arg3 arg6 X_arg2 X_arg3 k)

set_option maxHeartbeats 2000000 in
theorem trip_acc (k : Fin k0_t1_loop.trips) (acc : Carry F) (f6 : BufTy.Contents (Elt F) arg6.view.ty)
    (f7 : BufTy.Contents (Elt F) arg7.view.ty) (f8 : BufTy.Contents (Elt F) arg8.view.ty) :
    (tripL_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 k acc f6 f7 f8).2.2
      = accList2 arg8 (ca acc) (lvb (F := F) arg4 X_arg4 k)
          (fun u => arg7.view.readCov (tripWeightList arg2 arg3 arg6 X_arg2 X_arg3 k acc f6) (r6 1 u).toLoadRect)
          (accList (cb acc) (lva (F := F) arg4 X_arg4 k) (fun u => arg8.view.readAt (Elt F) (r8 u).toLoadRect f8)
            (fun u => arg7.view.readAt (Elt F) (r6 0 u).toLoadRect f7)) := by
  unfold tripL_k0_t1 trip_k0_t1
  rfl

theorem trip_carry (k : Fin k0_t1_loop.trips) (acc : Carry F) (f6 : BufTy.Contents (Elt F) arg6.view.ty)
    (f7 : BufTy.Contents (Elt F) arg7.view.ty) (f8 : BufTy.Contents (Elt F) arg8.view.ty) :
    tripR_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 k acc f6 f7 f8
      = (k0_pay6 (midMax arg2 arg3 X_arg2 X_arg3 k acc 0) (lb (F := F) arg3 X_arg3 k) (lq (F := F) arg2 X_arg2 0), k0_pay6 (midMax arg2 arg3 X_arg2 X_arg3 k acc 1) (lb (F := F) arg3 X_arg3 k) (lq (F := F) arg2 X_arg2 1), k0_pay6 (midMax arg2 arg3 X_arg2 X_arg3 k acc 2) (lb (F := F) arg3 X_arg3 k) (lq (F := F) arg2 X_arg2 2), k0_pay6 (midMax arg2 arg3 X_arg2 X_arg3 k acc 3) (lb (F := F) arg3 X_arg3 k) (lq (F := F) arg2 X_arg2 3),
         k0_pay7 (midMax arg2 arg3 X_arg2 X_arg3 k acc 0) (lb (F := F) arg3 X_arg3 k) (lq (F := F) arg2 X_arg2 0), k0_pay7 (midMax arg2 arg3 X_arg2 X_arg3 k acc 1) (lb (F := F) arg3 X_arg3 k) (lq (F := F) arg2 X_arg2 1), k0_pay7 (midMax arg2 arg3 X_arg2 X_arg3 k acc 2) (lb (F := F) arg3 X_arg3 k) (lq (F := F) arg2 X_arg2 2), k0_pay7 (midMax arg2 arg3 X_arg2 X_arg3 k acc 3) (lb (F := F) arg3 X_arg3 k) (lq (F := F) arg2 X_arg2 3),
         k0_pay7 (cm acc 0) (la (F := F) arg3 X_arg3 k) (lq (F := F) arg2 X_arg2 0), k0_pay7 (cm acc 1) (la (F := F) arg3 X_arg3 k) (lq (F := F) arg2 X_arg2 1), k0_pay7 (cm acc 2) (la (F := F) arg3 X_arg3 k) (lq (F := F) arg2 X_arg2 2), k0_pay7 (cm acc 3) (la (F := F) arg3 X_arg3 k) (lq (F := F) arg2 X_arg2 3)) := by
  unfold tripR_k0_t1 trip_k0_t1
  rfl

end Trip

end Cert.KernelIdeal.Attn
-- ==== Proof.TripValue.lean ====
module

public import proofs.«01_k».proof.Proof.TripLists

/-!
  One trip of the kernel's loop as a step of the recursion of `Recur.lean`: a trip keeps `Good` (`good_succ`), so it holds
  before every trip (`good_state`).
-/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Trip

variable (𝒱 : Variants) (c : Dev nD) (bd : Option 𝒱.V) (i : grid0.Coords) (arg2 : Memref sig .tc .vmem S1x256x1024 .bf16) (harg2 : arg2.IsWhole) (arg3 : Memref sig .tc .vmem S1x16640x256 .bf16) (harg3 : arg3.IsWhole) (arg4 : Memref sig .tc .vmem S1x144x16640 .bf16) (harg4 : arg4.IsWhole) (arg5 : Memref sig .tc .vmem S1024x128 .bf16) (harg5 : arg5.IsWhole) (arg6 : Memref sig .tc .vmem S2x4x1280x256 .f32) (harg6 : arg6.IsWhole) (arg7 : Memref sig .tc .vmem S2x4x1280x256 .bf16) (harg7 : arg7.IsWhole) (arg8 : Memref sig .tc .vmem S4x144x256 .f32) (harg8 : arg8.IsWhole) (v20 : FVec F S1x256 .f32) (v31 : FVec F S1x256 .f32) (v42 : FVec F S1x256 .f32) (v51 : FVec F S1x256 .f32) (v53 : FVec F S1x256 .f32) (v64 : FVec F S1x256 .f32) (v66 : FVec F S1x256 .f32) (v75 : FVec F S1x256 .f32) (v77 : FVec F S1x256 .f32) (v86 : FVec F S1x256 .f32) (v88 : FVec F S1x256 .f32) (v97 : FVec F S1x256 .f32) (v99 : FVec F S1x256 .f32) (v119 : FVec F S1280x256 .f32) (v120 : FVec F S1280x256 .f32) (X_arg2 : BufTy.Contents (Elt F) arg2.view.ty) (X_arg3 : BufTy.Contents (Elt F) arg3.view.ty) (X_arg4 : BufTy.Contents (Elt F) arg4.view.ty)

section Step

variable {k : Fin k0_t1_loop.trips} {acc : Carry F} {f6 : BufTy.Contents (Elt F) arg6.view.ty}
    {f7 : BufTy.Contents (Elt F) arg7.view.ty} {f8 : BufTy.Contents (Elt F) arg8.view.ty}
    (h : Good (tk (F := F) arg3 X_arg3) (tv (F := F) arg4 X_arg4) (tq (F := F) arg2 X_arg2) arg6 arg7 arg8 k.val acc f6 f7 f8)

include h

theorem good_cm (u : Fin 4) : cm acc u = maxAt (tk (F := F) arg3 X_arg3) (tq (F := F) arg2 X_arg2 u) (2 * k.val + 2) := by
  fin_cases u
  exacts [h.m0, h.m1, h.m2, h.m3]

theorem good_ca (u : Fin 4) : ca acc u = scaleAt (tk (F := F) arg3 X_arg3) (tq (F := F) arg2 X_arg2 u) (2 * k.val + 1) := by
  fin_cases u
  exacts [h.a0, h.a1, h.a2, h.a3]

theorem good_cb (u : Fin 4) : cb acc u = scaleAt (tk (F := F) arg3 X_arg3) (tq (F := F) arg2 X_arg2 u) (2 * k.val) := by
  fin_cases u
  exacts [h.b0, h.b1, h.b2, h.b3]

theorem good_midMax (u : Fin 4) : midMax arg2 arg3 X_arg2 X_arg3 k acc u
    = maxAt (tk (F := F) arg3 X_arg3) (tq (F := F) arg2 X_arg2 u) (2 * k.val + 3) := by
  unfold midMax
  rw [good_cm _ _ _ _ _ _ _ _ _ h u, la_eq, lq_eq]
  rfl

theorem good_found (u : Fin 4) : foundScores (F := F) arg2 arg3 arg6 X_arg2 X_arg3 k u
    = scoreAt (tk (F := F) arg3 X_arg3) (tq (F := F) arg2 X_arg2 u) (2 * k.val + 2) := by
  unfold foundScores scoreList scoreAt View.readCov
  rw [la_eq, lq_eq]
  rcases fin4 u with rfl | rfl | rfl | rfl <;> simp (decide := true) only [hit, miss6, ne_eq] <;> rfl

theorem good_weights (u : Fin 4) (g : BufTy.Contents (Elt F) arg7.view.ty) :
    arg7.view.readAt (Elt F) (r6 1 u).toLoadRect
        (arg7.view.writes (Elt F) g (tripWeightList arg2 arg3 arg6 X_arg2 X_arg3 k acc f6))
      = weightAt (tk (F := F) arg3 X_arg3) (tq (F := F) arg2 X_arg2 u) (2 * k.val + 1) := by
  unfold tripWeightList weightList weightAt
  have hs := h.s u
  have hm := good_cm _ _ _ _ _ _ _ _ _ h u
  rcases fin4 u with rfl | rfl | rfl | rfl <;> simp (decide := true) only [hit, miss6, ne_eq] <;> exact congrArg₂ _ hm hs

theorem good_weights' (u : Fin 4) (g : BufTy.Contents (Elt F) arg7.view.ty) :
    arg7.view.readAt (Elt F) (r6 0 u).toLoadRect
        (arg7.view.writes (Elt F) g (tripWeightList arg2 arg3 arg6 X_arg2 X_arg3 k acc f6))
      = weightAt (tk (F := F) arg3 X_arg3) (tq (F := F) arg2 X_arg2 u) (2 * k.val + 2) := by
  unfold tripWeightList weightList weightAt
  have hs := good_found _ _ _ _ _ _ _ _ _ h u
  have hm := good_midMax _ _ _ _ _ _ _ _ _ h u
  rcases fin4 u with rfl | rfl | rfl | rfl <;> simp (decide := true) only [hit, miss6, ne_eq] <;> exact congrArg₂ _ hm hs

end Step

theorem accList_read (a : Fin 4 → FVec F S1x256 .f32) (V : Vec F S1x144x1280 .bf16) (w : Fin 4 → Vec F S1x1x1280x256 .bf16)
    (c : Fin 4 → Vec F S1x144x256 .f32) (g : BufTy.Contents (Elt F) arg8.view.ty) (u : Fin 4) :
    arg8.view.readAt (Elt F) (r8 u).toLoadRect (arg8.view.writes (Elt F) g (accList a V c w))
      = k0_pay25 (a u) V (c u) (w u) := by
  unfold accList
  rcases fin4 u with rfl | rfl | rfl | rfl <;> simp (decide := true) only [hit, miss8r, ne_eq] <;> rfl

theorem accList2_read (a : Fin 4 → FVec F S1x256 .f32) (V : Vec F S1x144x1280 .bf16)
    (w : Fin 4 → Vec F S1x1x1280x256 .bf16) (L : List (View.Piece (Elt F) S4x144x256 .f32))
    (g : BufTy.Contents (Elt F) arg8.view.ty) (u : Fin 4) :
    arg8.view.readAt (Elt F) (r8 u).toLoadRect (arg8.view.writes (Elt F) g (accList2 arg8 a V w L))
      = k0_pay25 (a u) V (arg8.view.readCov L (r8 u).toLoadRect) (w u) := by
  unfold accList2 accPush View.readCov
  rcases fin4 u with rfl | rfl | rfl | rfl <;> simp (decide := true) only [hit, miss8r, ne_eq]

theorem accList2_rows (a : Fin 4 → FVec F S1x256 .f32) (V : Vec F S1x144x1280 .bf16)
    (w : Fin 4 → Vec F S1x1x1280x256 .bf16) (L : List (View.Piece (Elt F) S4x144x256 .f32))
    (g : BufTy.Contents (Elt F) arg8.view.ty) (u : Fin 4) :
    arg8.view.readAt (Elt F) (r8rows u).toLoadRect (arg8.view.writes (Elt F) g (accList2 arg8 a V w L))
      = accRows (k0_pay25 (a u) V (arg8.view.readCov L (r8 u).toLoadRect) (w u)) := by
  unfold accList2 accPush View.readCov
  rcases fin4 u with rfl | rfl | rfl | rfl <;> simp (decide := true) only [hit, miss8r, miss8rows, part8rows, ne_eq]

theorem accList2_den (a : Fin 4 → FVec F S1x256 .f32) (V : Vec F S1x144x1280 .bf16)
    (w : Fin 4 → Vec F S1x1x1280x256 .bf16) (L : List (View.Piece (Elt F) S4x144x256 .f32))
    (g : BufTy.Contents (Elt F) arg8.view.ty) (u : Fin 4) :
    arg8.view.readAt (Elt F) (r8den u).toLoadRect (arg8.view.writes (Elt F) g (accList2 arg8 a V w L))
      = accDen (k0_pay25 (a u) V (arg8.view.readCov L (r8 u).toLoadRect) (w u)) := by
  unfold accList2 accPush View.readCov
  rcases fin4 u with rfl | rfl | rfl | rfl <;> simp (decide := true) only [hit, miss8r, miss8den, part8den, ne_eq]

/-- A trip keeps what holds before it. -/
theorem good_succ (k : Fin k0_t1_loop.trips) (acc : Carry F) (f6 : BufTy.Contents (Elt F) arg6.view.ty)
    (f7 : BufTy.Contents (Elt F) arg7.view.ty) (f8 : BufTy.Contents (Elt F) arg8.view.ty)
    (h : Good (tk (F := F) arg3 X_arg3) (tv (F := F) arg4 X_arg4) (tq (F := F) arg2 X_arg2) arg6 arg7 arg8 k.val acc f6 f7 f8) :
    Good (tk (F := F) arg3 X_arg3) (tv (F := F) arg4 X_arg4) (tq (F := F) arg2 X_arg2) arg6 arg7 arg8 (k.val + 1)
      (tripR_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 k acc f6 f7 f8)
      (arg6.view.writes (Elt F) f6 (tripL_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 k acc f6 f7 f8).1)
      (arg7.view.writes (Elt F) f7 (tripL_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 k acc f6 f7 f8).2.1)
      (arg8.view.writes (Elt F) f8 (tripL_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 k acc f6 f7 f8).2.2) := by
  rw [trip_carry, trip_scores, trip_weights, trip_acc]
  have hmid := good_midMax _ _ _ _ _ _ _ _ _ h
  have hcm := good_cm _ _ _ _ _ _ _ _ _ h
  have hm : ∀ u : Fin 4, k0_pay6 (midMax arg2 arg3 X_arg2 X_arg3 k acc u) (lb (F := F) arg3 X_arg3 k) (lq (F := F) arg2 X_arg2 u)
      = maxAt (tk (F := F) arg3 X_arg3) (tq (F := F) arg2 X_arg2 u) (2 * (k.val + 1) + 2) := fun u => by
    rw [hmid, lb_eq, lq_eq]; rfl
  have ha : ∀ u : Fin 4, k0_pay7 (midMax arg2 arg3 X_arg2 X_arg3 k acc u) (lb (F := F) arg3 X_arg3 k) (lq (F := F) arg2 X_arg2 u)
      = scaleAt (tk (F := F) arg3 X_arg3) (tq (F := F) arg2 X_arg2 u) (2 * (k.val + 1) + 1) := fun u => by
    rw [hmid, lb_eq, lq_eq]; rfl
  have hb : ∀ u : Fin 4, k0_pay7 (cm acc u) (la (F := F) arg3 X_arg3 k) (lq (F := F) arg2 X_arg2 u)
      = scaleAt (tk (F := F) arg3 X_arg3) (tq (F := F) arg2 X_arg2 u) (2 * (k.val + 1)) := fun u => by
    rw [hcm, la_eq, lq_eq]; rfl
  refine ⟨hm 0, hm 1, hm 2, hm 3, ha 0, ha 1, ha 2, ha 3, hb 0, hb 1, hb 2, hb 3, fun u => ?_, fun u => ?_, fun u => ?_⟩
  · unfold scoreList scoreAt
    rw [lb_eq, lq_eq]
    rcases fin4 u with rfl | rfl | rfl | rfl <;> simp (decide := true) only [hit, miss6, ne_eq] <;> rfl
  · exact good_weights' _ _ _ _ _ _ _ _ _ h u f7
  · rw [accList2_read, show arg8.view.readCov (accList (cb acc) (lva (F := F) arg4 X_arg4 k)
        (fun u => arg8.view.readAt (Elt F) (r8 u).toLoadRect f8)
        (fun u => arg7.view.readAt (Elt F) (r6 0 u).toLoadRect f7)) (r8 u).toLoadRect = _ from accList_read arg8 _ _ _ _ _ u]
    have hw : arg7.view.readCov (tripWeightList arg2 arg3 arg6 X_arg2 X_arg3 k acc f6) (r6 1 u).toLoadRect
        = weightAt (tk (F := F) arg3 X_arg3) (tq (F := F) arg2 X_arg2 u) (2 * k.val + 1) :=
      good_weights _ _ _ _ _ _ _ _ _ h u _
    rw [hw, h.p u, h.c u, good_ca _ _ _ _ _ _ _ _ _ h u, good_cb _ _ _ _ _ _ _ _ _ h u, lva_eq, lvb_eq]
    rfl

/-- What holds before the first trip holds before every trip. -/
theorem good_state (G6 : BufTy.Contents (Elt F) arg6.view.ty) (G7 : BufTy.Contents (Elt F) arg7.view.ty)
    (G8 : BufTy.Contents (Elt F) arg8.view.ty) (init : Carry F)
    (h : Good (tk (F := F) arg3 X_arg3) (tv (F := F) arg4 X_arg4) (tq (F := F) arg2 X_arg2) arg6 arg7 arg8 0 init G6 G7 G8) : ∀ k, k ≤ k0_t1_loop.trips →
    Good (tk (F := F) arg3 X_arg3) (tv (F := F) arg4 X_arg4) (tq (F := F) arg2 X_arg2) arg6 arg7 arg8 k (st_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 G6 G7 G8 init k).1
      (arg6.view.writes (Elt F) G6 (st_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 G6 G7 G8 init k).2.1)
      (arg7.view.writes (Elt F) G7 (st_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 G6 G7 G8 init k).2.2.1)
      (arg8.view.writes (Elt F) G8 (st_k0_t1 (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 G6 G7 G8 init k).2.2.2)
  | 0, _ => h
  | k + 1, hk => by
    have ih := good_state G6 G7 G8 init h k (Nat.le_of_succ_le hk)
    have := good_succ (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 ⟨k, hk⟩ _ _ _ _ ih
    rw [st_k0_t1_succ (F := F) 𝒱 c bd i arg2 harg2 arg3 harg3 arg4 harg4 arg5 harg5 arg6 harg6 arg7 harg7 arg8 harg8 v20 v31 v42 v51 v53 v64 v66 v75 v77 v86 v88 v97 v99 v119 v120 X_arg2 X_arg3 X_arg4 G6 G7 G8 init ⟨k, hk⟩]
    simp only [View.writes_append]
    exact this

end Trip

end Cert.KernelIdeal.Attn
-- ==== Proof.BodyValue.lean ====
module

public import proofs.«01_k».proof.Proof.Body
public import proofs.«01_k».proof.Proof.TripValue
import all proofs.«01_k».proof.Proof.Body

/-!
  What one grid point writes: the four sub-blocks of `Recur.lean`.

  Before the loop the kernel does the scores of chunks 0 and 1 and the weights of chunk 0; after it the scores of chunk 12,
  the weights of chunks 11 and 12, and the last three chunks of the accumulators. The result block is then the four
  quotients.
-/

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Lists

variable (arg2 : Memref sig .tc .vmem S1x256x1024 .bf16) (arg3 : Memref sig .tc .vmem S1x16640x256 .bf16)
  (arg4 : Memref sig .tc .vmem S1x144x16640 .bf16) (arg6 : Memref sig .tc .vmem S2x4x1280x256 .f32)
  (arg7 : Memref sig .tc .vmem S2x4x1280x256 .bf16) (arg8 : Memref sig .tc .vmem S4x144x256 .f32)
  (X2 : BufTy.Contents (Elt F) arg2.view.ty) (X3 : BufTy.Contents (Elt F) arg3.view.ty)
  (X4 : BufTy.Contents (Elt F) arg4.view.ty) (f7 : BufTy.Contents (Elt F) arg7.view.ty)

/-- Four stores to the slots of one half of a buffer, in front of the list `L`. -/
def quad {e : EltTy} (p : Fin 2) (w : Fin 4 → Vec F S1x1x1280x256 e) (L : List (View.Piece (Elt F) S2x4x1280x256 e)) :
    List (View.Piece (Elt F) S2x4x1280x256 e) :=
  ⟨r6 p 3, w 3⟩ :: ⟨r6 p 2, w 2⟩ :: ⟨r6 p 1, w 1⟩ :: ⟨r6 p 0, w 0⟩ :: L

/-- A load of a chunk of the keys, of the values, at a literal offset. -/
def lk (o : ℕ) (h : ∀ a, (![0, o, 0] : Fin 3 → ℕ) a + S1x1280x256.size a ≤ S1x16640x256.size a) : Vec F S1x1280x256 .bf16 :=
  arg3.view.readAt (Elt F) (Rect.unit (s := S1x16640x256) ![0, o, 0] S1x1280x256.size h).toLoadRect X3
def lv (o : ℕ) (h : ∀ a, (![0, 0, o] : Fin 3 → ℕ) a + S1x144x1280.size a ≤ S1x144x16640.size a) : Vec F S1x144x1280 .bf16 :=
  arg4.view.readAt (Elt F) (Rect.unit (s := S1x144x16640) ![0, 0, o] S1x144x1280.size h).toLoadRect X4

theorem lk_eq (t : ℕ) (ht : t < 13) (h : ∀ a, (![0, 1280 * t, 0] : Fin 3 → ℕ) a + S1x1280x256.size a ≤ S1x16640x256.size a) :
    lk (F := F) arg3 X3 (1280 * t) h = tk (F := F) arg3 X3 t :=
  View.readAt_unit _ _ _ (by rw [Nat.mod_eq_of_lt ht]) _

theorem lv_eq (t : ℕ) (ht : t < 13) (h : ∀ a, (![0, 0, 1280 * t] : Fin 3 → ℕ) a + S1x144x1280.size a ≤ S1x144x16640.size a) :
    lv (F := F) arg4 X4 (1280 * t) h = tv (F := F) arg4 X4 t :=
  View.readAt_unit _ _ _ (by rw [Nat.mod_eq_of_lt ht]) _

/-- The maxima after chunk 0, and the carried values at loop entry. -/
def max1 (u : Fin 4) : FVec F S1x256 .f32 := k0_pay6 k0_pay59 (lk (F := F) arg3 X3 0 (by decide)) (lq (F := F) arg2 X2 u)
def init0 : Carry F :=
  (k0_pay6 (max1 arg2 arg3 X2 X3 0) (lk (F := F) arg3 X3 1280 (by decide)) (lq (F := F) arg2 X2 0), k0_pay6 (max1 arg2 arg3 X2 X3 1) (lk (F := F) arg3 X3 1280 (by decide)) (lq (F := F) arg2 X2 1), k0_pay6 (max1 arg2 arg3 X2 X3 2) (lk (F := F) arg3 X3 1280 (by decide)) (lq (F := F) arg2 X2 2), k0_pay6 (max1 arg2 arg3 X2 X3 3) (lk (F := F) arg3 X3 1280 (by decide)) (lq (F := F) arg2 X2 3),
   k0_pay7 (max1 arg2 arg3 X2 X3 0) (lk (F := F) arg3 X3 1280 (by decide)) (lq (F := F) arg2 X2 0), k0_pay7 (max1 arg2 arg3 X2 X3 1) (lk (F := F) arg3 X3 1280 (by decide)) (lq (F := F) arg2 X2 1), k0_pay7 (max1 arg2 arg3 X2 X3 2) (lk (F := F) arg3 X3 1280 (by decide)) (lq (F := F) arg2 X2 2), k0_pay7 (max1 arg2 arg3 X2 X3 3) (lk (F := F) arg3 X3 1280 (by decide)) (lq (F := F) arg2 X2 3),
   k0_pay7 k0_pay59 (lk (F := F) arg3 X3 0 (by decide)) (lq (F := F) arg2 X2 0), k0_pay7 k0_pay59 (lk (F := F) arg3 X3 0 (by decide)) (lq (F := F) arg2 X2 1), k0_pay7 k0_pay59 (lk (F := F) arg3 X3 0 (by decide)) (lq (F := F) arg2 X2 2), k0_pay7 k0_pay59 (lk (F := F) arg3 X3 0 (by decide)) (lq (F := F) arg2 X2 3))

/-- The stores before the loop. -/
def pre6 : List (View.Piece (Elt F) S2x4x1280x256 .f32) :=
  scoreList (lk (F := F) arg3 X3 0 (by decide)) (lk (F := F) arg3 X3 1280 (by decide)) (lq (F := F) arg2 X2)
def pre7 : List (View.Piece (Elt F) S2x4x1280x256 .bf16) :=
  quad 0 (fun u => k0_pay20 (max1 arg2 arg3 X2 X3 u) (arg6.view.readCov (pre6 arg2 arg3 X2 X3) (r6 0 u).toLoadRect)) []
def pre8 : List (View.Piece (Elt F) S4x144x256 .f32) :=
  [⟨Rect.unit ![0, 0, 0] S4x144x256.size (by decide), k0_pay58⟩]

/-- A state of the loop: the carried values and the stores made in it. -/
abbrev LoopState (F : FTy → Type) [FloatOps F] := Carry F × List (View.Piece (Elt F) S2x4x1280x256 .f32) ×
  List (View.Piece (Elt F) S2x4x1280x256 .bf16) × List (View.Piece (Elt F) S4x144x256 .f32)

/-- The stores to the result block, newest first, from the four quotients. -/
def outList (w : Fin 4 → Vec F S256x128 .bf16) : List (View.Piece (Elt F) S1024x128 .bf16) :=
  [⟨Rect.unit ![768, 0] S256x128.size (by decide), w 3⟩, ⟨Rect.unit ![512, 0] S256x128.size (by decide), w 2⟩,
   ⟨Rect.unit ![256, 0] S256x128.size (by decide), w 1⟩, ⟨Rect.unit ![0, 0] S256x128.size (by decide), w 0⟩]

end Lists

section Pay

variable (a : FVec F S1x256 .f32) (V : Vec F S1x144x1280 .bf16) (c : Vec F S1x144x256 .f32) (w : Vec F S1x1x1280x256 .bf16)

theorem pay128 : k0_pay128 a V c w = k0_pay25 a V c w := by exact rfl
theorem pay130 : k0_pay130 (k0_pay129 a V c w) = k0_pay25 a V c w := by exact rfl
theorem pay131 : k0_pay131 a (k0_pay127 V) c w = k0_pay25 a V c w := by exact rfl
theorem pay132 : k0_pay132 a (k0_pay127 V) c w = k0_pay25 a V c w := by exact rfl
theorem pay141 : k0_pay141 a V c w = k0_pay25 a V c w := by exact rfl
theorem pay142 : k0_pay142 a V c w = k0_pay25 a V c w := by exact rfl
theorem pay143 : k0_pay143 a (k0_pay140 V) c w = k0_pay25 a V c w := by exact rfl
theorem pay144 : k0_pay144 a (k0_pay140 V) c w = k0_pay25 a V c w := by exact rfl
theorem pay148 : k0_pay148 (k0_pay145 V) (k0_pay146 a c) (k0_pay147 w) = k0_pay25 a V c w := by exact rfl
theorem pay149 : k0_pay149 a (k0_pay145 V) c w = k0_pay25 a V c w := by exact rfl
theorem pay150 : k0_pay150 a (k0_pay145 V) c w = k0_pay25 a V c w := by exact rfl
theorem pay151 : k0_pay151 a (k0_pay145 V) c w = k0_pay25 a V c w := by exact rfl

end Pay

section Stores

variable (c : Dev nD) (i : grid0.Coords) (arg2 : Memref sig .tc .vmem S1x256x1024 .bf16) (harg2 : arg2.IsWhole)
    (arg3 : Memref sig .tc .vmem S1x16640x256 .bf16) (harg3 : arg3.IsWhole)
    (arg4 : Memref sig .tc .vmem S1x144x16640 .bf16) (harg4 : arg4.IsWhole)
    (arg5 : Memref sig .tc .vmem S1024x128 .bf16) (harg5 : arg5.IsWhole)
    (arg6 : Memref sig .tc .vmem S2x4x1280x256 .f32) (harg6 : arg6.IsWhole)
    (arg7 : Memref sig .tc .vmem S2x4x1280x256 .bf16) (harg7 : arg7.IsWhole)
    (arg8 : Memref sig .tc .vmem S4x144x256 .f32) (harg8 : arg8.IsWhole)
    (X2 : BufTy.Contents (Elt F) arg2.view.ty) (X3 : BufTy.Contents (Elt F) arg3.view.ty)
    (X4 : BufTy.Contents (Elt F) arg4.view.ty) (f7 : BufTy.Contents (Elt F) arg7.view.ty)

/-- The loop's state after its last trip. -/
def endState : LoopState F :=
  (st_k0_t1 Variants.none c none i arg2 harg2 arg3 harg3 arg4 harg4 arg5 harg5 arg6 harg6 arg7 harg7 arg8 harg8 (bodyRun.sl.r_2
    arg2 arg3 X2 X3) (bodyRun.sl.r_5 arg2 arg3 X2 X3) (bodyRun.sl.r_7 arg2 arg3 X2 X3) (bodyRun.sl.r_8 arg2 arg3 X2 X3)
    (bodyRun.sl.r_9 arg2 arg3 X2 X3) (bodyRun.sl.r_12 arg2 arg3 X2 X3) (bodyRun.sl.r_13 arg2 arg3 X2 X3) (bodyRun.sl.r_14 arg2
    arg3 X2 X3) (bodyRun.sl.r_15 arg2 arg3 X2 X3) (bodyRun.sl.r_16 arg2 arg3 X2 X3) (bodyRun.sl.r_17 arg2 arg3 X2 X3)
    (bodyRun.sl.r_19 arg2 arg3 X2 X3) (bodyRun.sl.r_20 arg2 arg3 X2 X3) (bodyRun.sl.r_21 arg2 arg3 arg6 X2 X3) (bodyRun.sl.r_22
    arg2 arg3 X2 X3) X2 X3 X4 (arg6.view.writes (Elt F) arg6.view.junk (bodyRun.sl.H6_8 arg2 arg3 X2 X3)) (arg7.view.writes (Elt
    F) f7 [⟨Rect.unit ![0, 3, 0, 0] S1x1x1280x256.size inb_S2x4x1280x256_S1x1x1280x256_0_3_0_0, k0_pay102 (bodyRun.sl.r_8 arg2
    arg3 X2 X3) (bodyRun.sl.v127 arg2 arg3 arg6 X2 X3)⟩, ⟨Rect.unit ![0, 2, 0, 0] S1x1x1280x256.size
    inb_S2x4x1280x256_S1x1x1280x256_0_2_0_0, k0_pay101 (bodyRun.sl.r_21 arg2 arg3 arg6 X2 X3) (bodyRun.sl.r_22 arg2 arg3 X2 X3)⟩,
    ⟨Rect.unit ![0, 1, 0, 0] S1x1x1280x256.size inb_S2x4x1280x256_S1x1x1280x256_0_1_0_0, k0_pay98 (bodyRun.sl.r_4 arg2 arg3 X2
    X3) (bodyRun.sl.v109 arg2 arg3 arg6 X2 X3)⟩, ⟨Rect.unit ![0, 0, 0, 0] S1x1x1280x256.size
    inb_S2x4x1280x256_S1x1x1280x256_0_0_0_0, k0_pay97 (bodyRun.sl.r_1 arg2 arg3 X2 X3) (bodyRun.sl.v100 arg2 arg3 arg6 X2 X3)⟩])
    (arg8.view.writes (Elt F) arg8.view.junk bodyRun.sl.H8_1) (bodyRun.sl.r_12 arg2 arg3 X2 X3, bodyRun.sl.r_14 arg2 arg3 X2 X3,
    bodyRun.sl.r_16 arg2 arg3 X2 X3, bodyRun.sl.r_19 arg2 arg3 X2 X3, bodyRun.sl.r_13 arg2 arg3 X2 X3, bodyRun.sl.r_15 arg2 arg3
    X2 X3, bodyRun.sl.r_17 arg2 arg3 X2 X3, bodyRun.sl.r_20 arg2 arg3 X2 X3, bodyRun.sl.r_2 arg2 arg3 X2 X3, bodyRun.sl.r_5 arg2
    arg3 X2 X3, bodyRun.sl.r_7 arg2 arg3 X2 X3, bodyRun.sl.r_9 arg2 arg3 X2 X3) (Scf.trips k0_t1_loop.lb k0_t1_loop.ub
    k0_t1_loop.st))

theorem start6 : bodyRun.sl.H6_8 arg2 arg3 X2 X3 = pre6 arg2 arg3 X2 X3 := by exact rfl

theorem start7 : [⟨Rect.unit ![0, 3, 0, 0] S1x1x1280x256.size inb_S2x4x1280x256_S1x1x1280x256_0_3_0_0, k0_pay102 (bodyRun.sl.r_8 arg2 arg3 X2
    X3) (bodyRun.sl.v127 arg2 arg3 arg6 X2 X3)⟩, ⟨Rect.unit ![0, 2, 0, 0] S1x1x1280x256.size
    inb_S2x4x1280x256_S1x1x1280x256_0_2_0_0, k0_pay101 (bodyRun.sl.r_21 arg2 arg3 arg6 X2 X3) (bodyRun.sl.r_22 arg2 arg3 X2 X3)⟩,
    ⟨Rect.unit ![0, 1, 0, 0] S1x1x1280x256.size inb_S2x4x1280x256_S1x1x1280x256_0_1_0_0, k0_pay98 (bodyRun.sl.r_4 arg2 arg3 X2
    X3) (bodyRun.sl.v109 arg2 arg3 arg6 X2 X3)⟩, ⟨Rect.unit ![0, 0, 0, 0] S1x1x1280x256.size
    inb_S2x4x1280x256_S1x1x1280x256_0_0_0_0, k0_pay97 (bodyRun.sl.r_1 arg2 arg3 X2 X3) (bodyRun.sl.v100 arg2 arg3 arg6 X2 X3)⟩]
    = pre7 arg2 arg3 arg6 X2 X3 := by exact rfl

theorem start_carry : (bodyRun.sl.r_12 arg2 arg3 X2 X3, bodyRun.sl.r_14 arg2 arg3 X2 X3, bodyRun.sl.r_16 arg2 arg3 X2 X3, bodyRun.sl.r_19 arg2 arg3
    X2 X3, bodyRun.sl.r_13 arg2 arg3 X2 X3, bodyRun.sl.r_15 arg2 arg3 X2 X3, bodyRun.sl.r_17 arg2 arg3 X2 X3, bodyRun.sl.r_20
    arg2 arg3 X2 X3, bodyRun.sl.r_2 arg2 arg3 X2 X3, bodyRun.sl.r_5 arg2 arg3 X2 X3, bodyRun.sl.r_7 arg2 arg3 X2 X3,
    bodyRun.sl.r_9 arg2 arg3 X2 X3)
    = init0 arg2 arg3 X2 X3 := by exact rfl

/-- The maxima and the scale factors of chunk 12. -/
def max13 (u : Fin 4) : FVec F S1x256 .f32 :=
  k0_pay6 (cm (endState c i arg2 harg2 arg3 harg3 arg4 harg4 arg5 harg5 arg6 harg6 arg7 harg7 arg8 harg8 X2 X3 X4 f7).1 u) (lk (F := F) arg3 X3 15360 (by decide)) (lq (F := F) arg2 X2 u)
def scale12 (u : Fin 4) : FVec F S1x256 .f32 :=
  k0_pay7 (cm (endState c i arg2 harg2 arg3 harg3 arg4 harg4 arg5 harg5 arg6 harg6 arg7 harg7 arg8 harg8 X2 X3 X4 f7).1 u) (lk (F := F) arg3 X3 15360 (by decide)) (lq (F := F) arg2 X2 u)

/-- The weights of chunks 10, 11 and 12 as the accumulator's last three chunks find them. -/
def w10 (u : Fin 4) : Vec F S1x1x1280x256 .bf16 := arg7.view.readCov (bodyRun.sl.H7_4 c i arg2 harg2 arg3 harg3 arg4 harg4 arg5 harg5 arg6 harg6 arg7 harg7 arg8 harg8 X2 X3 X4 f7) (r6 0 u).toLoadRect
def w11 (u : Fin 4) : Vec F S1x1x1280x256 .bf16 := arg7.view.readCov (bodyRun.sl.H7_8 c i arg2 harg2 arg3 harg3 arg4 harg4 arg5 harg5 arg6 harg6 arg7 harg7 arg8 harg8 X2 X3 X4 f7) (r6 1 u).toLoadRect
def w12 (u : Fin 4) : Vec F S1x1x1280x256 .bf16 := arg7.view.readCov (bodyRun.sl.H7_8 c i arg2 harg2 arg3 harg3 arg4 harg4 arg5 harg5 arg6 harg6 arg7 harg7 arg8 harg8 X2 X3 X4 f7) (r6 0 u).toLoadRect

attribute [local irreducible] st_k0_t1 View.readCov

set_option maxHeartbeats 40000

theorem stores6 : bodyRun.sl.H6_4 c i arg2 harg2 arg3 harg3 arg4 harg4 arg5 harg5 arg6 harg6 arg7 harg7 arg8 harg8 X2 X3 X4 f7
    = quad 0 (fun u => k0_pay5 (lk (F := F) arg3 X3 15360 (by decide)) (lq (F := F) arg2 X2 u)) ((endState c i arg2 harg2 arg3 harg3 arg4 harg4 arg5 harg5 arg6 harg6 arg7 harg7 arg8 harg8 X2 X3 X4 f7).2.1 ++ bodyRun.sl.H6_8 arg2 arg3 X2 X3) := by exact rfl

theorem stores7a : bodyRun.sl.H7_4 c i arg2 harg2 arg3 harg3 arg4 harg4 arg5 harg5 arg6 harg6 arg7 harg7 arg8 harg8 X2 X3 X4 f7
    = quad 1 (fun u => k0_pay20 (cm (endState c i arg2 harg2 arg3 harg3 arg4 harg4 arg5 harg5 arg6 harg6 arg7 harg7 arg8 harg8 X2 X3 X4 f7).1 u) (arg6.view.readCov (bodyRun.sl.H6_4 c i arg2 harg2 arg3 harg3 arg4 harg4 arg5 harg5 arg6 harg6 arg7 harg7 arg8 harg8 X2 X3 X4 f7) (r6 1 u).toLoadRect))
        ((endState c i arg2 harg2 arg3 harg3 arg4 harg4 arg5 harg5 arg6 harg6 arg7 harg7 arg8 harg8 X2 X3 X4 f7).2.2.1 ++ [⟨Rect.unit ![0, 3, 0, 0] S1x1x1280x256.size inb_S2x4x1280x256_S1x1x1280x256_0_3_0_0, k0_pay102 (bodyRun.sl.r_8 arg2 arg3 X2 X3) (bodyRun.sl.v127 arg2 arg3 arg6 X2 X3)⟩, ⟨Rect.unit ![0, 2, 0, 0] S1x1x1280x256.size inb_S2x4x1280x256_S1x1x1280x256_0_2_0_0, k0_pay101 (bodyRun.sl.r_21 arg2 arg3 arg6 X2 X3) (bodyRun.sl.r_22 arg2 arg3 X2 X3)⟩, ⟨Rect.unit ![0, 1, 0, 0] S1x1x1280x256.size inb_S2x4x1280x256_S1x1x1280x256_0_1_0_0, k0_pay98 (bodyRun.sl.r_4 arg2 arg3 X2 X3) (bodyRun.sl.v109 arg2 arg3 arg6 X2 X3)⟩, ⟨Rect.unit ![0, 0, 0, 0] S1x1x1280x256.size inb_S2x4x1280x256_S1x1x1280x256_0_0_0_0, k0_pay97 (bodyRun.sl.r_1 arg2 arg3 X2 X3) (bodyRun.sl.v100 arg2 arg3 arg6 X2 X3)⟩]) := by exact rfl

theorem stores7b : bodyRun.sl.H7_8 c i arg2 harg2 arg3 harg3 arg4 harg4 arg5 harg5 arg6 harg6 arg7 harg7 arg8 harg8 X2 X3 X4 f7
    = quad 0 (fun u => k0_pay20 (max13 c i arg2 harg2 arg3 harg3 arg4 harg4 arg5 harg5 arg6 harg6 arg7 harg7 arg8 harg8 X2 X3 X4 f7 u) (arg6.view.readCov (bodyRun.sl.H6_4 c i arg2 harg2 arg3 harg3 arg4 harg4 arg5 harg5 arg6 harg6 arg7 harg7 arg8 harg8 X2 X3 X4 f7) (r6 0 u).toLoadRect))
        (bodyRun.sl.H7_4 c i arg2 harg2 arg3 harg3 arg4 harg4 arg5 harg5 arg6 harg6 arg7 harg7 arg8 harg8 X2 X3 X4 f7) := by exact rfl

theorem stores8_0 : bodyRun.sl.H8_1_1 c i arg2 harg2 arg3 harg3 arg4 harg4 arg5 harg5 arg6 harg6 arg7 harg7 arg8 harg8 X2 X3 X4 f7
    = accPush arg8 (cb (endState c i arg2 harg2 arg3 harg3 arg4 harg4 arg5 harg5 arg6 harg6 arg7 harg7 arg8 harg8 X2 X3 X4 f7).1) (lv (F := F) arg4 X4 12800 (by decide)) (w10 c i arg2 harg2 arg3 harg3 arg4 harg4 arg5 harg5 arg6 harg6 arg7 harg7 arg8 harg8 X2 X3 X4 f7) 0
        ((endState c i arg2 harg2 arg3 harg3 arg4 harg4 arg5 harg5 arg6 harg6 arg7 harg7 arg8 harg8 X2 X3 X4 f7).2.2.2 ++ bodyRun.sl.H8_1) := by
  unfold bodyRun.sl.H8_1_1
  rw [pay128]
  rfl

theorem stores8_1 : bodyRun.sl.H8_2 c i arg2 harg2 arg3 harg3 arg4 harg4 arg5 harg5 arg6 harg6 arg7 harg7 arg8 harg8 X2 X3 X4 f7
    = accPush arg8 (cb (endState c i arg2 harg2 arg3 harg3 arg4 harg4 arg5 harg5 arg6 harg6 arg7 harg7 arg8 harg8 X2 X3 X4 f7).1) (lv (F := F) arg4 X4 12800 (by decide)) (w10 c i arg2 harg2 arg3 harg3 arg4 harg4 arg5 harg5 arg6 harg6 arg7 harg7 arg8 harg8 X2 X3 X4 f7) 1
        (bodyRun.sl.H8_1_1 c i arg2 harg2 arg3 harg3 arg4 harg4 arg5 harg5 arg6 harg6 arg7 harg7 arg8 harg8 X2 X3 X4 f7) := by
  unfold bodyRun.sl.H8_2 bodyRun.sl.r_47
  rw [pay130]
  rfl

theorem stores8_2 : bodyRun.sl.H8_3 c i arg2 harg2 arg3 harg3 arg4 harg4 arg5 harg5 arg6 harg6 arg7 harg7 arg8 harg8 X2 X3 X4 f7
    = accPush arg8 (cb (endState c i arg2 harg2 arg3 harg3 arg4 harg4 arg5 harg5 arg6 harg6 arg7 harg7 arg8 harg8 X2 X3 X4 f7).1) (lv (F := F) arg4 X4 12800 (by decide)) (w10 c i arg2 harg2 arg3 harg3 arg4 harg4 arg5 harg5 arg6 harg6 arg7 harg7 arg8 harg8 X2 X3 X4 f7) 2
        (bodyRun.sl.H8_2 c i arg2 harg2 arg3 harg3 arg4 harg4 arg5 harg5 arg6 harg6 arg7 harg7 arg8 harg8 X2 X3 X4 f7) := by
  unfold bodyRun.sl.H8_3 bodyRun.sl.r_46
  rw [pay131]
  rfl

theorem stores8_3 : bodyRun.sl.H8_4 c i arg2 harg2 arg3 harg3 arg4 harg4 arg5 harg5 arg6 harg6 arg7 harg7 arg8 harg8 X2 X3 X4 f7
    = accPush arg8 (cb (endState c i arg2 harg2 arg3 harg3 arg4 harg4 arg5 harg5 arg6 harg6 arg7 harg7 arg8 harg8 X2 X3 X4 f7).1) (lv (F := F) arg4 X4 12800 (by decide)) (w10 c i arg2 harg2 arg3 harg3 arg4 harg4 arg5 harg5 arg6 harg6 arg7 harg7 arg8 harg8 X2 X3 X4 f7) 3
        (bodyRun.sl.H8_3 c i arg2 harg2 arg3 harg3 arg4 harg4 arg5 harg5 arg6 harg6 arg7 harg7 arg8 harg8 X2 X3 X4 f7) := by
  unfold bodyRun.sl.H8_4 bodyRun.sl.r_46
  rw [pay132]
  rfl

theorem stores8_4 : bodyRun.sl.H8_5 c i arg2 harg2 arg3 harg3 arg4 harg4 arg5 harg5 arg6 harg6 arg7 harg7 arg8 harg8 X2 X3 X4 f7
    = accPush arg8 (ca (endState c i arg2 harg2 arg3 harg3 arg4 harg4 arg5 harg5 arg6 harg6 arg7 harg7 arg8 harg8 X2 X3 X4 f7).1) (lv (F := F) arg4 X4 14080 (by decide)) (w11 c i arg2 harg2 arg3 harg3 arg4 harg4 arg5 harg5 arg6 harg6 arg7 harg7 arg8 harg8 X2 X3 X4 f7) 0
        (bodyRun.sl.H8_4 c i arg2 harg2 arg3 harg3 arg4 harg4 arg5 harg5 arg6 harg6 arg7 harg7 arg8 harg8 X2 X3 X4 f7) := by
  unfold bodyRun.sl.H8_5
  rw [pay141]
  rfl

theorem stores8_5 : bodyRun.sl.H8_6 c i arg2 harg2 arg3 harg3 arg4 harg4 arg5 harg5 arg6 harg6 arg7 harg7 arg8 harg8 X2 X3 X4 f7
    = accPush arg8 (ca (endState c i arg2 harg2 arg3 harg3 arg4 harg4 arg5 harg5 arg6 harg6 arg7 harg7 arg8 harg8 X2 X3 X4 f7).1) (lv (F := F) arg4 X4 14080 (by decide)) (w11 c i arg2 harg2 arg3 harg3 arg4 harg4 arg5 harg5 arg6 harg6 arg7 harg7 arg8 harg8 X2 X3 X4 f7) 1
        (bodyRun.sl.H8_5 c i arg2 harg2 arg3 harg3 arg4 harg4 arg5 harg5 arg6 harg6 arg7 harg7 arg8 harg8 X2 X3 X4 f7) := by
  unfold bodyRun.sl.H8_6
  rw [pay142]
  rfl

theorem stores8_6 : bodyRun.sl.H8_7 c i arg2 harg2 arg3 harg3 arg4 harg4 arg5 harg5 arg6 harg6 arg7 harg7 arg8 harg8 X2 X3 X4 f7
    = accPush arg8 (ca (endState c i arg2 harg2 arg3 harg3 arg4 harg4 arg5 harg5 arg6 harg6 arg7 harg7 arg8 harg8 X2 X3 X4 f7).1) (lv (F := F) arg4 X4 14080 (by decide)) (w11 c i arg2 harg2 arg3 harg3 arg4 harg4 arg5 harg5 arg6 harg6 arg7 harg7 arg8 harg8 X2 X3 X4 f7) 2
        (bodyRun.sl.H8_6 c i arg2 harg2 arg3 harg3 arg4 harg4 arg5 harg5 arg6 harg6 arg7 harg7 arg8 harg8 X2 X3 X4 f7) := by
  unfold bodyRun.sl.H8_7 bodyRun.sl.r_51
  rw [pay143]
  rfl

theorem stores8_7 : bodyRun.sl.H8_8 c i arg2 harg2 arg3 harg3 arg4 harg4 arg5 harg5 arg6 harg6 arg7 harg7 arg8 harg8 X2 X3 X4 f7
    = accPush arg8 (ca (endState c i arg2 harg2 arg3 harg3 arg4 harg4 arg5 harg5 arg6 harg6 arg7 harg7 arg8 harg8 X2 X3 X4 f7).1) (lv (F := F) arg4 X4 14080 (by decide)) (w11 c i arg2 harg2 arg3 harg3 arg4 harg4 arg5 harg5 arg6 harg6 arg7 harg7 arg8 harg8 X2 X3 X4 f7) 3
        (bodyRun.sl.H8_7 c i arg2 harg2 arg3 harg3 arg4 harg4 arg5 harg5 arg6 harg6 arg7 harg7 arg8 harg8 X2 X3 X4 f7) := by
  unfold bodyRun.sl.H8_8 bodyRun.sl.r_51
  rw [pay144]
  rfl

theorem stores8_8 : bodyRun.sl.H8_9 c i arg2 harg2 arg3 harg3 arg4 harg4 arg5 harg5 arg6 harg6 arg7 harg7 arg8 harg8 X2 X3 X4 f7
    = accPush arg8 (scale12 c i arg2 harg2 arg3 harg3 arg4 harg4 arg5 harg5 arg6 harg6 arg7 harg7 arg8 harg8 X2 X3 X4 f7) (lv (F := F) arg4 X4 15360 (by decide)) (w12 c i arg2 harg2 arg3 harg3 arg4 harg4 arg5 harg5 arg6 harg6 arg7 harg7 arg8 harg8 X2 X3 X4 f7) 0
        (bodyRun.sl.H8_8 c i arg2 harg2 arg3 harg3 arg4 harg4 arg5 harg5 arg6 harg6 arg7 harg7 arg8 harg8 X2 X3 X4 f7) := by
  unfold bodyRun.sl.H8_9 bodyRun.sl.r_52 bodyRun.sl.r_53 bodyRun.sl.r_54 bodyRun.sl.r_38
  rw [pay148]
  rfl

theorem stores8_9 : bodyRun.sl.H8_10 c i arg2 harg2 arg3 harg3 arg4 harg4 arg5 harg5 arg6 harg6 arg7 harg7 arg8 harg8 X2 X3 X4 f7
    = accPush arg8 (scale12 c i arg2 harg2 arg3 harg3 arg4 harg4 arg5 harg5 arg6 harg6 arg7 harg7 arg8 harg8 X2 X3 X4 f7) (lv (F := F) arg4 X4 15360 (by decide)) (w12 c i arg2 harg2 arg3 harg3 arg4 harg4 arg5 harg5 arg6 harg6 arg7 harg7 arg8 harg8 X2 X3 X4 f7) 1
        (bodyRun.sl.H8_9 c i arg2 harg2 arg3 harg3 arg4 harg4 arg5 harg5 arg6 harg6 arg7 harg7 arg8 harg8 X2 X3 X4 f7) := by
  unfold bodyRun.sl.H8_10 bodyRun.sl.r_52
  rw [pay149]
  rfl

theorem stores8_10 : bodyRun.sl.H8_11 c i arg2 harg2 arg3 harg3 arg4 harg4 arg5 harg5 arg6 harg6 arg7 harg7 arg8 harg8 X2 X3 X4 f7
    = accPush arg8 (scale12 c i arg2 harg2 arg3 harg3 arg4 harg4 arg5 harg5 arg6 harg6 arg7 harg7 arg8 harg8 X2 X3 X4 f7) (lv (F := F) arg4 X4 15360 (by decide)) (w12 c i arg2 harg2 arg3 harg3 arg4 harg4 arg5 harg5 arg6 harg6 arg7 harg7 arg8 harg8 X2 X3 X4 f7) 2
        (bodyRun.sl.H8_10 c i arg2 harg2 arg3 harg3 arg4 harg4 arg5 harg5 arg6 harg6 arg7 harg7 arg8 harg8 X2 X3 X4 f7) := by
  unfold bodyRun.sl.H8_11 bodyRun.sl.r_52
  rw [pay150]
  rfl

theorem stores8_11 : bodyRun.sl.H8_12 c i arg2 harg2 arg3 harg3 arg4 harg4 arg5 harg5 arg6 harg6 arg7 harg7 arg8 harg8 X2 X3 X4 f7
    = accPush arg8 (scale12 c i arg2 harg2 arg3 harg3 arg4 harg4 arg5 harg5 arg6 harg6 arg7 harg7 arg8 harg8 X2 X3 X4 f7) (lv (F := F) arg4 X4 15360 (by decide)) (w12 c i arg2 harg2 arg3 harg3 arg4 harg4 arg5 harg5 arg6 harg6 arg7 harg7 arg8 harg8 X2 X3 X4 f7) 3
        (bodyRun.sl.H8_11 c i arg2 harg2 arg3 harg3 arg4 harg4 arg5 harg5 arg6 harg6 arg7 harg7 arg8 harg8 X2 X3 X4 f7) := by
  unfold bodyRun.sl.H8_12 bodyRun.sl.r_52
  rw [pay151]
  rfl

theorem trips5 : k0_t1_loop.trips = 5 := by decide +kernel

/-- What holds before the first trip. -/
theorem good_start : Good (tk (F := F) arg3 X3) (tv (F := F) arg4 X4) (tq (F := F) arg2 X2) arg6 arg7 arg8 0 (init0 arg2 arg3 X2 X3)
    (arg6.view.writes (Elt F) arg6.view.junk (pre6 arg2 arg3 X2 X3))
    (arg7.view.writes (Elt F) f7 (pre7 arg2 arg3 arg6 X2 X3)) (arg8.view.writes (Elt F) arg8.view.junk bodyRun.sl.H8_1) := by
  have h1 : ∀ u, max1 arg2 arg3 X2 X3 u = maxAt (tk (F := F) arg3 X3) (tq (F := F) arg2 X2 u) 1 := fun u => by
    unfold max1
    rw [lk_eq arg3 X3 0 (by decide), lq_eq]
    rfl
  have hm : ∀ u : Fin 4, k0_pay6 (max1 arg2 arg3 X2 X3 u) (lk (F := F) arg3 X3 1280 (by decide)) (lq (F := F) arg2 X2 u)
      = maxAt (tk (F := F) arg3 X3) (tq (F := F) arg2 X2 u) 2 := fun u => by
    rw [h1, lk_eq arg3 X3 1 (by decide), lq_eq]; rfl
  have ha : ∀ u : Fin 4, k0_pay7 (max1 arg2 arg3 X2 X3 u) (lk (F := F) arg3 X3 1280 (by decide)) (lq (F := F) arg2 X2 u)
      = scaleAt (tk (F := F) arg3 X3) (tq (F := F) arg2 X2 u) 1 := fun u => by
    rw [h1, lk_eq arg3 X3 1 (by decide), lq_eq]; rfl
  have hb : ∀ u : Fin 4, k0_pay7 k0_pay59 (lk (F := F) arg3 X3 0 (by decide)) (lq (F := F) arg2 X2 u)
      = scaleAt (tk (F := F) arg3 X3) (tq (F := F) arg2 X2 u) 0 := fun u => by
    rw [lk_eq arg3 X3 0 (by decide), lq_eq]; rfl
  refine ⟨hm 0, hm 1, hm 2, hm 3, ha 0, ha 1, ha 2, ha 3, hb 0, hb 1, hb 2, hb 3, fun u => ?_, fun u => ?_, fun u => ?_⟩
  · unfold pre6 scoreList scoreAt
    rw [lk_eq arg3 X3 1 (by decide), lq_eq]
    rcases fin4 u with rfl | rfl | rfl | rfl <;> simp (decide := true) only [hit, miss6, ne_eq]
  · have hs : arg6.view.readCov (pre6 arg2 arg3 X2 X3) (r6 0 u).toLoadRect
        = scoreAt (tk (F := F) arg3 X3) (tq (F := F) arg2 X2 u) 0 := by
      unfold pre6 scoreList scoreAt View.readCov
      rw [lk_eq arg3 X3 0 (by decide), lq_eq]
      rcases fin4 u with rfl | rfl | rfl | rfl <;> simp (decide := true) only [hit, miss6, ne_eq]
    unfold pre7 quad weightAt
    have h1u := h1 u
    rcases fin4 u with rfl | rfl | rfl | rfl <;> simp (decide := true) only [hit, miss6, ne_eq] <;>
      exact congrArg₂ _ h1u hs
  · funext x
    show arg8.view.read (Elt F) (arg8.view.writes (Elt F) arg8.view.junk bodyRun.sl.H8_1) _ = _
    unfold bodyRun.sl.H8_1
    rw [View.read_writes_full]
    rfl

/-- What holds after the loop. -/
theorem end_good : Good (tk (F := F) arg3 X3) (tv (F := F) arg4 X4) (tq (F := F) arg2 X2) arg6 arg7 arg8 5 (endState c i arg2 harg2 arg3 harg3 arg4 harg4 arg5 harg5 arg6 harg6 arg7 harg7 arg8 harg8 X2 X3 X4 f7).1
    (arg6.view.writes (Elt F) (arg6.view.writes (Elt F) arg6.view.junk (bodyRun.sl.H6_8 arg2 arg3 X2 X3)) (endState c i arg2 harg2 arg3 harg3 arg4 harg4 arg5 harg5 arg6 harg6 arg7 harg7 arg8 harg8 X2 X3 X4 f7).2.1)
    (arg7.view.writes (Elt F) (arg7.view.writes (Elt F) f7 [⟨Rect.unit ![0, 3, 0, 0] S1x1x1280x256.size inb_S2x4x1280x256_S1x1x1280x256_0_3_0_0, k0_pay102 (bodyRun.sl.r_8 arg2 arg3 X2
    X3) (bodyRun.sl.v127 arg2 arg3 arg6 X2 X3)⟩, ⟨Rect.unit ![0, 2, 0, 0] S1x1x1280x256.size
    inb_S2x4x1280x256_S1x1x1280x256_0_2_0_0, k0_pay101 (bodyRun.sl.r_21 arg2 arg3 arg6 X2 X3) (bodyRun.sl.r_22 arg2 arg3 X2 X3)⟩,
    ⟨Rect.unit ![0, 1, 0, 0] S1x1x1280x256.size inb_S2x4x1280x256_S1x1x1280x256_0_1_0_0, k0_pay98 (bodyRun.sl.r_4 arg2 arg3 X2
    X3) (bodyRun.sl.v109 arg2 arg3 arg6 X2 X3)⟩, ⟨Rect.unit ![0, 0, 0, 0] S1x1x1280x256.size
    inb_S2x4x1280x256_S1x1x1280x256_0_0_0_0, k0_pay97 (bodyRun.sl.r_1 arg2 arg3 X2 X3) (bodyRun.sl.v100 arg2 arg3 arg6 X2 X3)⟩]) (endState c i arg2 harg2 arg3 harg3 arg4 harg4 arg5 harg5 arg6 harg6 arg7 harg7 arg8 harg8 X2 X3 X4 f7).2.2.1)
    (arg8.view.writes (Elt F) (arg8.view.writes (Elt F) arg8.view.junk bodyRun.sl.H8_1) (endState c i arg2 harg2 arg3 harg3 arg4 harg4 arg5 harg5 arg6 harg6 arg7 harg7 arg8 harg8 X2 X3 X4 f7).2.2.2) := by
  have h0 := good_start (F := F) arg2 arg3  arg4 arg6 arg7 arg8 X2 X3 X4 f7
  rw [← start6, ← start7, ← start_carry] at h0
  have h : Good (tk (F := F) arg3 X3) (tv (F := F) arg4 X4) (tq (F := F) arg2 X2) arg6 arg7 arg8 k0_t1_loop.trips (endState c i arg2 harg2 arg3 harg3 arg4 harg4 arg5 harg5 arg6 harg6 arg7 harg7 arg8 harg8 X2 X3 X4 f7).1
    (arg6.view.writes (Elt F) (arg6.view.writes (Elt F) arg6.view.junk (bodyRun.sl.H6_8 arg2 arg3 X2 X3)) (endState c i arg2 harg2 arg3 harg3 arg4 harg4 arg5 harg5 arg6 harg6 arg7 harg7 arg8 harg8 X2 X3 X4 f7).2.1)
    (arg7.view.writes (Elt F) (arg7.view.writes (Elt F) f7 [⟨Rect.unit ![0, 3, 0, 0] S1x1x1280x256.size inb_S2x4x1280x256_S1x1x1280x256_0_3_0_0, k0_pay102 (bodyRun.sl.r_8 arg2 arg3 X2
    X3) (bodyRun.sl.v127 arg2 arg3 arg6 X2 X3)⟩, ⟨Rect.unit ![0, 2, 0, 0] S1x1x1280x256.size
    inb_S2x4x1280x256_S1x1x1280x256_0_2_0_0, k0_pay101 (bodyRun.sl.r_21 arg2 arg3 arg6 X2 X3) (bodyRun.sl.r_22 arg2 arg3 X2 X3)⟩,
    ⟨Rect.unit ![0, 1, 0, 0] S1x1x1280x256.size inb_S2x4x1280x256_S1x1x1280x256_0_1_0_0, k0_pay98 (bodyRun.sl.r_4 arg2 arg3 X2
    X3) (bodyRun.sl.v109 arg2 arg3 arg6 X2 X3)⟩, ⟨Rect.unit ![0, 0, 0, 0] S1x1x1280x256.size
    inb_S2x4x1280x256_S1x1x1280x256_0_0_0_0, k0_pay97 (bodyRun.sl.r_1 arg2 arg3 X2 X3) (bodyRun.sl.v100 arg2 arg3 arg6 X2 X3)⟩]) (endState c i arg2 harg2 arg3 harg3 arg4 harg4 arg5 harg5 arg6 harg6 arg7 harg7 arg8 harg8 X2 X3 X4 f7).2.2.1)
    (arg8.view.writes (Elt F) (arg8.view.writes (Elt F) arg8.view.junk bodyRun.sl.H8_1) (endState c i arg2 harg2 arg3 harg3 arg4 harg4 arg5 harg5 arg6 harg6 arg7 harg7 arg8 harg8 X2 X3 X4 f7).2.2.2) :=
    good_state (F := F) Variants.none c none i arg2 harg2 arg3 harg3 arg4 harg4 arg5 harg5 arg6 harg6 arg7 harg7 arg8 harg8 _ _ _ _ _ _ _ _ _ _ _ _ _ _ _ X2 X3 X4 _ _ _ _ h0 k0_t1_loop.trips le_rfl
  rw [trips5] at h
  exact h

/-- The scores of chunks 11 and 12, the last three chunks' weights and factors, as the accumulator finds them. -/
theorem read_s11 (u : Fin 4) : arg6.view.readCov (bodyRun.sl.H6_4 c i arg2 harg2 arg3 harg3 arg4 harg4 arg5 harg5 arg6 harg6 arg7 harg7 arg8 harg8 X2 X3 X4 f7) (r6 1 u).toLoadRect = scoreAt (tk (F := F) arg3 X3) (tq (F := F) arg2 X2 u) 11 := by
  rw [← (end_good c i arg2 harg2 arg3 harg3 arg4 harg4 arg5 harg5 arg6 harg6 arg7 harg7 arg8 harg8 X2 X3 X4 f7).s u, stores6]
  unfold quad View.readCov
  simp (decide := true) only [miss6, ne_eq, true_or, View.writes_append]

theorem read_s12 (u : Fin 4) : arg6.view.readCov (bodyRun.sl.H6_4 c i arg2 harg2 arg3 harg3 arg4 harg4 arg5 harg5 arg6 harg6 arg7 harg7 arg8 harg8 X2 X3 X4 f7) (r6 0 u).toLoadRect = scoreAt (tk (F := F) arg3 X3) (tq (F := F) arg2 X2 u) 12 := by
  rw [stores6, lk_eq arg3 X3 12 (by decide), lq_eq]
  unfold quad View.readCov scoreAt
  rcases fin4 u with rfl | rfl | rfl | rfl <;> simp (decide := true) only [hit, miss6, ne_eq]

theorem end_cm (u : Fin 4) : cm (endState c i arg2 harg2 arg3 harg3 arg4 harg4 arg5 harg5 arg6 harg6 arg7 harg7 arg8 harg8 X2 X3 X4 f7).1 u = maxAt (tk (F := F) arg3 X3) (tq (F := F) arg2 X2 u) 12 := by
  have h := end_good c i arg2 harg2 arg3 harg3 arg4 harg4 arg5 harg5 arg6 harg6 arg7 harg7 arg8 harg8 X2 X3 X4 f7
  rcases fin4 u with rfl | rfl | rfl | rfl
  exacts [h.m0, h.m1, h.m2, h.m3]

theorem end_ca (u : Fin 4) : ca (endState c i arg2 harg2 arg3 harg3 arg4 harg4 arg5 harg5 arg6 harg6 arg7 harg7 arg8 harg8 X2 X3 X4 f7).1 u = scaleAt (tk (F := F) arg3 X3) (tq (F := F) arg2 X2 u) 11 := by
  have h := end_good c i arg2 harg2 arg3 harg3 arg4 harg4 arg5 harg5 arg6 harg6 arg7 harg7 arg8 harg8 X2 X3 X4 f7
  rcases fin4 u with rfl | rfl | rfl | rfl
  exacts [h.a0, h.a1, h.a2, h.a3]

theorem end_cb (u : Fin 4) : cb (endState c i arg2 harg2 arg3 harg3 arg4 harg4 arg5 harg5 arg6 harg6 arg7 harg7 arg8 harg8 X2 X3 X4 f7).1 u = scaleAt (tk (F := F) arg3 X3) (tq (F := F) arg2 X2 u) 10 := by
  have h := end_good c i arg2 harg2 arg3 harg3 arg4 harg4 arg5 harg5 arg6 harg6 arg7 harg7 arg8 harg8 X2 X3 X4 f7
  rcases fin4 u with rfl | rfl | rfl | rfl
  exacts [h.b0, h.b1, h.b2, h.b3]

theorem max13_eq (u : Fin 4) : max13 c i arg2 harg2 arg3 harg3 arg4 harg4 arg5 harg5 arg6 harg6 arg7 harg7 arg8 harg8 X2 X3 X4 f7 u = maxAt (tk (F := F) arg3 X3) (tq (F := F) arg2 X2 u) 13 := by
  unfold max13
  rw [end_cm, lk_eq arg3 X3 12 (by decide), lq_eq]
  rfl

theorem scale12_eq (u : Fin 4) : scale12 c i arg2 harg2 arg3 harg3 arg4 harg4 arg5 harg5 arg6 harg6 arg7 harg7 arg8 harg8 X2 X3 X4 f7 u = scaleAt (tk (F := F) arg3 X3) (tq (F := F) arg2 X2 u) 12 := by
  unfold scale12
  rw [end_cm, lk_eq arg3 X3 12 (by decide), lq_eq]
  rfl

theorem w10_eq (u : Fin 4) : w10 c i arg2 harg2 arg3 harg3 arg4 harg4 arg5 harg5 arg6 harg6 arg7 harg7 arg8 harg8 X2 X3 X4 f7 u = weightAt (tk (F := F) arg3 X3) (tq (F := F) arg2 X2 u) 10 := by
  rw [← (end_good c i arg2 harg2 arg3 harg3 arg4 harg4 arg5 harg5 arg6 harg6 arg7 harg7 arg8 harg8 X2 X3 X4 f7).p u, ← View.writes_append, View.readAt_writes_of_cover]
  · unfold w10
    rw [stores7a]
    unfold quad View.readCov
    simp (decide := true) only [miss6, ne_eq, true_or]
  · intro j
    have hmem : ∃ w, (⟨r6 0 u, w⟩ : View.Piece (Elt F) S2x4x1280x256 .bf16) ∈ pre7 arg2 arg3 arg6 X2 X3 := by
      unfold pre7 quad
      rcases fin4 u with rfl | rfl | rfl | rfl
      · exact ⟨_, .tail _ (.tail _ (.tail _ (.head _)))⟩
      · exact ⟨_, .tail _ (.tail _ (.head _))⟩
      · exact ⟨_, .tail _ (.head _)⟩
      · exact ⟨_, .head _⟩
    obtain ⟨w, hw⟩ := hmem
    rw [start7]
    exact ⟨_, List.mem_append_right _ hw, (r6 0 u).toLoadRect.idx_mem j⟩

theorem w11_eq (u : Fin 4) : w11 c i arg2 harg2 arg3 harg3 arg4 harg4 arg5 harg5 arg6 harg6 arg7 harg7 arg8 harg8 X2 X3 X4 f7 u = weightAt (tk (F := F) arg3 X3) (tq (F := F) arg2 X2 u) 11 := by
  unfold w11 weightAt
  rw [stores7b, stores7a, ← read_s11 c i arg2 harg2 arg3 harg3 arg4 harg4 arg5 harg5 arg6 harg6 arg7 harg7 arg8 harg8 X2 X3 X4 f7 u, ← end_cm c i arg2 harg2 arg3 harg3 arg4 harg4 arg5 harg5 arg6 harg6 arg7 harg7 arg8 harg8 X2 X3 X4 f7 u]
  unfold quad View.readCov
  rcases fin4 u with rfl | rfl | rfl | rfl <;> simp (decide := true) only [hit, miss6, ne_eq]

theorem w12_eq (u : Fin 4) : w12 c i arg2 harg2 arg3 harg3 arg4 harg4 arg5 harg5 arg6 harg6 arg7 harg7 arg8 harg8 X2 X3 X4 f7 u = weightAt (tk (F := F) arg3 X3) (tq (F := F) arg2 X2 u) 12 := by
  unfold w12 weightAt
  rw [stores7b, ← read_s12 c i arg2 harg2 arg3 harg3 arg4 harg4 arg5 harg5 arg6 harg6 arg7 harg7 arg8 harg8 X2 X3 X4 f7 u, ← max13_eq c i arg2 harg2 arg3 harg3 arg4 harg4 arg5 harg5 arg6 harg6 arg7 harg7 arg8 harg8 X2 X3 X4 f7 u]
  unfold quad View.readCov
  rcases fin4 u with rfl | rfl | rfl | rfl <;> simp (decide := true) only [hit, miss6, ne_eq]

/-- All stores to the accumulator buffer. -/
theorem stores8 : bodyRun.sl.H8_12 c i arg2 harg2 arg3 harg3 arg4 harg4 arg5 harg5 arg6 harg6 arg7 harg7 arg8 harg8 X2 X3 X4 f7
    = accList2 arg8 (scale12 c i arg2 harg2 arg3 harg3 arg4 harg4 arg5 harg5 arg6 harg6 arg7 harg7 arg8 harg8 X2 X3 X4 f7) (lv (F := F) arg4 X4 15360 (by decide)) (w12 c i arg2 harg2 arg3 harg3 arg4 harg4 arg5 harg5 arg6 harg6 arg7 harg7 arg8 harg8 X2 X3 X4 f7)
        (accList2 arg8 (ca (endState c i arg2 harg2 arg3 harg3 arg4 harg4 arg5 harg5 arg6 harg6 arg7 harg7 arg8 harg8 X2 X3 X4 f7).1) (lv (F := F) arg4 X4 14080 (by decide)) (w11 c i arg2 harg2 arg3 harg3 arg4 harg4 arg5 harg5 arg6 harg6 arg7 harg7 arg8 harg8 X2 X3 X4 f7)
        (accList2 arg8 (cb (endState c i arg2 harg2 arg3 harg3 arg4 harg4 arg5 harg5 arg6 harg6 arg7 harg7 arg8 harg8 X2 X3 X4 f7).1) (lv (F := F) arg4 X4 12800 (by decide)) (w10 c i arg2 harg2 arg3 harg3 arg4 harg4 arg5 harg5 arg6 harg6 arg7 harg7 arg8 harg8 X2 X3 X4 f7) ((endState c i arg2 harg2 arg3 harg3 arg4 harg4 arg5 harg5 arg6 harg6 arg7 harg7 arg8 harg8 X2 X3 X4 f7).2.2.2 ++ bodyRun.sl.H8_1))) := by
  rw [stores8_11, stores8_10, stores8_9, stores8_8, stores8_7, stores8_6, stores8_5, stores8_4, stores8_3, stores8_2,
    stores8_1, stores8_0]
  rfl

/-- The accumulator before chunk 12, as the last chunk finds it. -/
theorem acc12_eq (u : Fin 4) : arg8.view.readCov
      (accList2 arg8 (ca (endState c i arg2 harg2 arg3 harg3 arg4 harg4 arg5 harg5 arg6 harg6 arg7 harg7 arg8 harg8 X2 X3 X4 f7).1) (lv (F := F) arg4 X4 14080 (by decide)) (w11 c i arg2 harg2 arg3 harg3 arg4 harg4 arg5 harg5 arg6 harg6 arg7 harg7 arg8 harg8 X2 X3 X4 f7)
        (accList2 arg8 (cb (endState c i arg2 harg2 arg3 harg3 arg4 harg4 arg5 harg5 arg6 harg6 arg7 harg7 arg8 harg8 X2 X3 X4 f7).1) (lv (F := F) arg4 X4 12800 (by decide)) (w10 c i arg2 harg2 arg3 harg3 arg4 harg4 arg5 harg5 arg6 harg6 arg7 harg7 arg8 harg8 X2 X3 X4 f7) ((endState c i arg2 harg2 arg3 harg3 arg4 harg4 arg5 harg5 arg6 harg6 arg7 harg7 arg8 harg8 X2 X3 X4 f7).2.2.2 ++ bodyRun.sl.H8_1))) (r8 u).toLoadRect
    = accAt (tk (F := F) arg3 X3) (tv (F := F) arg4 X4) (tq (F := F) arg2 X2 u) 12 := by
  have h : arg8.view.readCov ((endState c i arg2 harg2 arg3 harg3 arg4 harg4 arg5 harg5 arg6 harg6 arg7 harg7 arg8 harg8 X2 X3 X4 f7).2.2.2 ++ bodyRun.sl.H8_1) (r8 u).toLoadRect = accAt (tk (F := F) arg3 X3) (tv (F := F) arg4 X4) (tq (F := F) arg2 X2 u) 10 := by
    rw [← (end_good c i arg2 harg2 arg3 harg3 arg4 harg4 arg5 harg5 arg6 harg6 arg7 harg7 arg8 harg8 X2 X3 X4 f7).c u]
    unfold View.readCov
    rw [View.writes_append]
  unfold View.readCov
  rw [accList2_read]
  unfold View.readCov
  rw [accList2_read, h, end_ca, end_cb, w10_eq, w11_eq, lv_eq arg4 X4 10 (by decide), lv_eq arg4 X4 11 (by decide)]
  rfl

/-- The four quotients. -/
def quot (u : Fin 4) : Vec F S256x128 .bf16 :=
  k0_pay2 (arg8.view.readCov (bodyRun.sl.H8_12 c i arg2 harg2 arg3 harg3 arg4 harg4 arg5 harg5 arg6 harg6 arg7 harg7 arg8 harg8 X2 X3 X4 f7) (r8rows u).toLoadRect)
    (arg8.view.readCov (bodyRun.sl.H8_12 c i arg2 harg2 arg3 harg3 arg4 harg4 arg5 harg5 arg6 harg6 arg7 harg7 arg8 harg8 X2 X3 X4 f7) (r8den u).toLoadRect)

theorem quot_eq (u : Fin 4) : quot c i arg2 harg2 arg3 harg3 arg4 harg4 arg5 harg5 arg6 harg6 arg7 harg7 arg8 harg8 X2 X3 X4 f7 u
    = outSub (arg2.view.read (Elt F) X2) (arg3.view.read (Elt F) X3) (arg4.view.read (Elt F) X4) u := by
  have hacc : k0_pay25 (scale12 c i arg2 harg2 arg3 harg3 arg4 harg4 arg5 harg5 arg6 harg6 arg7 harg7 arg8 harg8 X2 X3 X4 f7 u) (lv (F := F) arg4 X4 15360 (by decide))
      (arg8.view.readCov
      (accList2 arg8 (ca (endState c i arg2 harg2 arg3 harg3 arg4 harg4 arg5 harg5 arg6 harg6 arg7 harg7 arg8 harg8 X2 X3 X4 f7).1) (lv (F := F) arg4 X4 14080 (by decide)) (w11 c i arg2 harg2 arg3 harg3 arg4 harg4 arg5 harg5 arg6 harg6 arg7 harg7 arg8 harg8 X2 X3 X4 f7)
        (accList2 arg8 (cb (endState c i arg2 harg2 arg3 harg3 arg4 harg4 arg5 harg5 arg6 harg6 arg7 harg7 arg8 harg8 X2 X3 X4 f7).1) (lv (F := F) arg4 X4 12800 (by decide)) (w10 c i arg2 harg2 arg3 harg3 arg4 harg4 arg5 harg5 arg6 harg6 arg7 harg7 arg8 harg8 X2 X3 X4 f7) ((endState c i arg2 harg2 arg3 harg3 arg4 harg4 arg5 harg5 arg6 harg6 arg7 harg7 arg8 harg8 X2 X3 X4 f7).2.2.2 ++ bodyRun.sl.H8_1))) (r8 u).toLoadRect) (w12 c i arg2 harg2 arg3 harg3 arg4 harg4 arg5 harg5 arg6 harg6 arg7 harg7 arg8 harg8 X2 X3 X4 f7 u)
      = accAt (tk (F := F) arg3 X3) (tv (F := F) arg4 X4) (tq (F := F) arg2 X2 u) 13 := by
    rw [acc12_eq, scale12_eq, w12_eq, lv_eq arg4 X4 12 (by decide)]
    rfl
  unfold quot outSub
  rw [stores8]
  congr 1
  · rw [← hacc]
    unfold View.readCov
    rw [accList2_rows]
    unfold View.readCov
    rfl
  · rw [← hacc]
    unfold View.readCov
    rw [accList2_den]
    unfold View.readCov
    rfl

/-- The stores to the result block, whatever the scratch held before. -/
theorem body_list (f6 : BufTy.Contents (Elt F) arg6.view.ty) (f8 : BufTy.Contents (Elt F) arg8.view.ty) :
    (bodyRun (F := F) c i arg2 harg2 arg3 harg3 arg4 harg4 arg5 harg5 arg6 harg6 arg7 harg7 arg8 harg8 X2 X3 X4 f6 f7 f8).1
      = outList (outSub (arg2.view.read (Elt F) X2) (arg3.view.read (Elt F) X3) (arg4.view.read (Elt F) X4)) := by
  rw [show outSub (arg2.view.read (Elt F) X2) (arg3.view.read (Elt F) X3) (arg4.view.read (Elt F) X4) = quot c i arg2 harg2 arg3 harg3 arg4 harg4 arg5 harg5 arg6 harg6 arg7 harg7 arg8 harg8 X2 X3 X4 f7 from
    funext fun u => (quot_eq c i arg2 harg2 arg3 harg3 arg4 harg4 arg5 harg5 arg6 harg6 arg7 harg7 arg8 harg8 X2 X3 X4 f7 u).symm]
  unfold bodyRun
  rfl

end Stores

end Cert.KernelIdeal.Attn
-- ==== Proof.Run.lean ====
/-
  The launch of the attention kernel, once for every float interpretation: what each grid point leaves in the result
  window's staging buffer, the pipeline's proof data, the body's obligation and the run.
-/
module

public import proofs.«01_k».proof.Proof.BodyValue
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result block of one grid point: the four blocks of 256 query rows, one above the other. -/
def outBlock (X2 : Vec F S1x256x1024 .bf16) (X3 : Vec F S1x16640x256 .bf16) (X4 : Vec F S1x144x16640 .bf16) :
    Vec F S1024x128 .bf16 :=
  View.canon (outList (outSub X2 X3 X4))

/-- The four stores tile the block. -/
theorem outList_cover (w : Fin 4 → Vec F S256x128 .bf16) (y : S1024x128.Idx) :
    ∃ pc ∈ outList w, y ∈ pc.1.set :=
  View.cover_of_tiled (outList w) S256x128.size (by rfl) y

/-- One grid point, between the staging buffers' contents as the pipeline sees them. -/
theorem sound_kernel (c : Dev nD) (i : grid0.Coords) (arg2 : Memref sig .tc .vmem S1x256x1024 .bf16) (harg2 : arg2.IsWhole)
    (arg3 : Memref sig .tc .vmem S1x16640x256 .bf16) (harg3 : arg3.IsWhole)
    (arg4 : Memref sig .tc .vmem S1x144x16640 .bf16) (harg4 : arg4.IsWhole)
    (arg5 : Memref sig .tc .vmem S1024x128 .bf16) (harg5 : arg5.IsWhole)
    (arg6 : Memref sig .tc .vmem S2x4x1280x256 .f32) (harg6 : arg6.IsWhole)
    (arg7 : Memref sig .tc .vmem S2x4x1280x256 .bf16) (harg7 : arg7.IsWhole)
    (arg8 : Memref sig .tc .vmem S4x144x256 .f32) (harg8 : arg8.IsWhole)
    (x2 : Vec F S1x256x1024 .bf16) (x3 : Vec F S1x16640x256 .bf16) (x4 : Vec F S1x144x16640 .bf16) (K : PUnit → sProp 𝕄) :
    iprop(owns (c : Thread nD τ) arg2 fullShare x2 ∗ owns (c : Thread nD τ) arg3 fullShare x3
        ∗ owns (c : Thread nD τ) arg4 fullShare x4 ∗ (∃ d, owns (c : Thread nD τ) arg5 fullShare d)
        ∗ (∃ f, pt (F := F) c arg6 f) ∗ (∃ f, pt (F := F) c arg7 f) ∗ (∃ f, pt (F := F) c arg8 f)
        ∗ (iprop(owns (c : Thread nD τ) arg2 fullShare x2 ∗ owns (c : Thread nD τ) arg3 fullShare x3
            ∗ owns (c : Thread nD τ) arg4 fullShare x4 ∗ owns (c : Thread nD τ) arg5 fullShare (outBlock x2 x3 x4)
            ∗ (∃ f, pt (F := F) c arg6 f) ∗ (∃ f, pt (F := F) c arg7 f) ∗ (∃ f, pt (F := F) c arg8 f)) -∗ K ⟨⟩))
      ⊢ wp frame (wpE (defs₀ (F := F)) Variants.none (c : Thread nD τ) none) Set.univ
          (cc0_mla_attention (F := F) i arg2 harg2 arg3 harg3 arg4 harg4 arg5 harg5 arg6 harg6 arg7 harg7 arg8 harg8) K := by
  unfold owns
  iintro ⟨⟨%f2, %h2, H2⟩, ⟨%f3, %h3, H3⟩, ⟨%f4, %h4, H4⟩, ⟨%d5, %f5, -, H5⟩, ⟨%f6, H6⟩, ⟨%f7, H7⟩, ⟨%f8, H8⟩, Hk⟩
  subst h2 h3 h4
  iapply ((bodyRun (F := F) c i arg2 harg2 arg3 harg3 arg4 harg4 arg5 harg5 arg6 harg6 arg7 harg7 arg8 harg8 f2 f3 f4 f6 f7 f8).2 f5 K)
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H2, H3, H4, H5, H6, H7, H8⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    rw [body_list]
    exact View.read_writes_eq_canon _ _ _ (outList_cover _)
  isplitl [H6]; · iexact H6
  isplitl [H7]; · iexact H7
  iexact H8

/-! ## The pipeline's proof data -/

/-- The input windows' buffers keep their blocks, the result window's holds the attention of the three blocks. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlock (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlock (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- A scratch buffer at some contents is its whole memref at some contents. -/
theorem scratch_pt (c : Dev nD) (b : Ref sig .tc) :
    (iprop(∃ f : Buf (Elt F) ((c : Thread nD τ).loc b), ((c : Thread nD τ).loc b) ↦{fullShare} f) : sProp 𝕄)
      = iprop(∃ f, pt (F := F) c (Memref.whole b) f) := by
  unfold pt
  simp only [Memref.view_whole, View.set_whole]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl,
    show (dats m 0 c).Φ t.castSucc = Pipeline.ΦA spec0 c from rfl,
    show (dats m 0 c).owesAt () t.succ = (dats m 0 c).owesAt () t.castSucc from rfl,
    after0_0, after0_1, after0_2, after0_3]
  unfold Pipeline.ΦA
  rw [scopedRest0_eq, scratch_pt, scratch_pt, scratch_pt]
  iintro ⟨⟨⟨H6, H7, H8⟩, Hr⟩, Ho, ⟨%d0, H0⟩, ⟨%d1, H1⟩, ⟨%d2, H2⟩, ⟨%d3, H3⟩⟩
  iapply (sound_kernel (F := F) c (grid0.coords t) _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H6]; · iexact H6
  isplitl [H7]; · iexact H7
  isplitl [H8]; · iexact H8
  iintro ⟨H0, H1, H2, H3, H6, H7, H8⟩
  isplitl [H6 H7 H8 Hr]
  · isplitl [H6 H7 H8]
    · isplitl [H6]; · iexact H6
      isplitl [H7]; · iexact H7
      iexact H8
    iexact Hr
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

set_option backward.isDefEq.respectTransparency.types false in
/-- Every run ends with the arrays at what the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

theorem run_main : θ_run defs (onTc (τ := τ) (main (F := F))) (s₀ m ρ) (Pipeline.FramePost cfgs (dats m) 0 (V m)) :=
  (θ_run defs _ _).mono (fun _ h => h.1) (run_main_quiescent m ρ)

/-- Every run ends, the arguments unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.Frames.lean ====
/-
  The frames: every program runs to the end, its arguments unchanged and every semaphore counter at zero. The printed
  kernel and its ideal copy are one text, so one run serves both.
-/
module

public import proofs.«01_k».proof.Defs
public import proofs.«01_k».proof.Proof.Gen.Kernel
public import proofs.«01_k».proof.Proof.Gen.Pre_finite
public import proofs.«01_k».proof.Proof.Gen.ReferenceIdeal
public import proofs.«01_k».proof.Proof.Gen.ReferenceIdeal.Run
public import proofs.«01_k».proof.Proof.Run
public import Idealize.ShloMosaic.Adequacy
public import Idealize.ShloMosaic.Init

@[expose] public section

noncomputable section

namespace Cert.Proof

open Idealize.ShloMosaic Idealize.ShloMosaic.TcCoe Idealize.SL.Sem

theorem frame_kernel_ideal : Cert.quiescent_KernelIdeal := fun m ρ _ => Cert.KernelIdeal.Attn.frame (F := Ideal) m ρ

theorem frame_kernel_ideal_pre : Cert.quiescent_KernelIdeal_pre_finite :=
  fun m ρ _ => Cert.KernelIdeal.Attn.frame (F := Ideal) m ρ

/-- The two body tables are one. -/
theorem body_table_eq : Cert.Kernel.defs₀ (F := Bits) = Cert.KernelIdeal.defs₀ (F := Bits) := by
  unfold Cert.Kernel.defs₀ Cert.KernelIdeal.defs₀
  refine congrArg Defs.onTc ?_
  funext l x
  obtain ⟨l, hl⟩ := l
  match l, hl with
  | 0, _ => rfl

theorem table_eq : Cert.Kernel.defs (F := Bits) = Cert.KernelIdeal.defs (F := Bits) := by
  unfold Cert.Kernel.defs Cert.KernelIdeal.defs
  exact congrArg (Pipeline.defs Cert.KernelIdeal.pcfgs) body_table_eq

theorem main_eq : Cert.Kernel.main (F := Bits) = Cert.KernelIdeal.main (F := Bits) := rfl

theorem frame_kernel : Cert.quiescent_Kernel := fun m ρ _ => by
  rw [table_eq, main_eq]
  exact Cert.KernelIdeal.Attn.frame (F := Bits) m ρ

theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

theorem frame_reference_pre : Cert.quiescent_ReferenceIdeal_pre_finite := fun m ρ _ => frame_reference m ρ trivial

end Cert.Proof

end
-- ==== Proof.Pay.lean ====
module
public import proofs.«01_k».proof.Proof.Recur
public import Idealize.ShloMosaic.Lib.Claim
public import Idealize.ShloMosaic.Lib.Pointwise
public import Idealize.ShloMosaic.Lib.ValueIdx
@[expose] public section
set_option maxRecDepth 16384
noncomputable section
namespace Cert.KernelIdeal.Attn
open Idealize.ShloMosaic Idealize.ShloMosaic.TcCoe Idealize.ShloMosaic.Tactic
open Cert.KernelIdeal Cert.KernelIdeal.Gen

variable (K : ℕ → Vec Ideal S1x1280x256 .bf16) (V : ℕ → Vec Ideal S1x144x1280 .bf16) (Q : Vec Ideal S1x256x256 .bf16) (t : ℕ)

theorem exp2_ideal {φ : FTy} (x : Ideal φ) : FloatOps.exp2 x = Ideal.exp2 x := rfl

theorem score_apply (j : Fin 1280) (q : Fin 256) :
    scoreAt K Q t (ix4 0 0 j q) = ∑ d : Fin 256, K t (ix3 0 j d) * Q (ix3 0 d q) := by
  unfold scoreAt k0_pay5 k0_pay4 k0_pay3
  pointwise

theorem max_zero (q : Fin 256) : maxAt K Q 0 (ix2 0 q) = Ideal.ofBits .f32 0xF149F2CA#32 := by
  unfold maxAt k0_pay59
  pointwise

theorem max_succ (q : Fin 256) : maxAt K Q (t+1) (ix2 0 q) = max (maxAt K Q t (ix2 0 q)) (Finset.univ.fold max (Ideal.ofBits FTy.f32 0xFF800000#32) fun j : Fin 1280 => scoreAt K Q t (ix4 0 0 j q)) := by
  rw [show maxAt K Q (t+1) = k0_pay6 (maxAt K Q t) (K t) Q from rfl]
  simp only [score_apply]
  unfold k0_pay6 k0_pay4 k0_pay3
  pointwise

theorem scale_apply (q : Fin 256) : scaleAt K Q t (ix2 0 q) = Ideal.exp2 (maxAt K Q t (ix2 0 q) - maxAt K Q (t+1) (ix2 0 q)) := by
  unfold scaleAt k0_pay7
  pointwise
  exact exp2_ideal _

theorem weight_apply (j : Fin 1280) (q : Fin 256) : weightAt K Q t (ix4 0 0 j q) = Ideal.exp2 (scoreAt K Q t (ix4 0 0 j q) - maxAt K Q (t+1) (ix2 0 q)) := by
  unfold weightAt k0_pay20
  pointwise
  exact exp2_ideal _

theorem acc_succ (r : Fin 144) (q : Fin 256) : accAt K V Q (t+1) (ix3 0 r q) = scaleAt K Q t (ix2 0 q) * accAt K V Q t (ix3 0 r q)
    + ∑ j : Fin 1280, V t (ix3 0 r j) * weightAt K Q t (ix4 0 0 j q) := by
  rw [show accAt K V Q (t+1) = k0_pay25 (scaleAt K Q t) (V t) (accAt K V Q t) (weightAt K Q t) from rfl]
  unfold k0_pay25 k0_pay24
  pointwise

theorem quot_apply (a : FVec Ideal S1x144x256 .f32) (q : Fin 256) (d : Fin 128) :
    k0_pay2 (accRows a) (accDen a) (ix2 q d) = Ideal.div (a (ix3 0 ⟨d.val, by omega⟩ q)) (a (ix3 0 128 q)) := by
  unfold k0_pay2
  pointwise
  unfold accRows accDen VecWindow.window
  congr 2
  · funext k; fin_cases k <;> exact Fin.ext (by simp [Rect.emb, Rect.unit]; try rfl)
  · funext k; fin_cases k <;> exact Fin.ext (by simp [Rect.emb, Rect.unit]; try rfl)

end Cert.KernelIdeal.Attn

end

end
-- ==== Proof.Softmax.lean ====
/-
  Softmax taken chunk by chunk, over the extended reals. Scores are real, values are any extended reals. The running
  recursion (a maximum, and an accumulator rescaled whenever the maximum moves) holds, before every chunk, the sum of the
  values weighted by powers of two relative to the running maximum. The quotient of two such sums does not depend on what
  the weights are relative to, and equals the softmax average in base e at scores multiplied by `log 2`.
-/
module

public import Idealize.ShloMosaic.PureOps.Ideal
public import Mathlib.Data.EReal.Inv
public import Mathlib.Analysis.SpecialFunctions.Pow.Real

@[expose] public section

noncomputable section

namespace Cert.Softmax

open Idealize.ShloMosaic

/-- A real factor that is not negative goes into a finite sum of extended reals. -/
theorem real_mul_sum {ι : Type} (s : Finset ι) (c : ℝ) (hc : 0 ≤ c) (f : ι → EReal) :
    (c : EReal) * ∑ i ∈ s, f i = ∑ i ∈ s, (c : EReal) * f i := by
  classical
  induction s using Finset.induction_on with
  | empty => simp
  | insert i s hi ih =>
    rw [Finset.sum_insert hi, Finset.sum_insert hi,
      EReal.left_distrib_of_nonneg_of_ne_top (EReal.coe_nonneg.mpr hc) (EReal.coe_ne_top c), ih]

theorem coe_sum {ι : Type} (s : Finset ι) (f : ι → ℝ) :
    ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The greatest of real numbers and a real number is real. -/
theorem max_fold_real {ι : Type} (s : Finset ι) (x : ℝ) (f : ι → ℝ) :
    ∃ y : ℝ, max (x : EReal) (s.fold max ⊥ fun i => (f i : EReal)) = y := by
  classical
  induction s using Finset.induction_on generalizing x with
  | empty => exact ⟨x, by simp⟩
  | insert i s hi ih =>
    rw [Finset.fold_insert hi, ← max_assoc, ← EReal.coe_strictMono.monotone.map_max]
    exact ih (max x (f i))

/-- The greatest of real numbers, at least one, is real. -/
theorem fold_real {ι : Type} (s : Finset ι) (hs : s.Nonempty) (f : ι → ℝ) :
    ∃ y : ℝ, (s.fold max ⊥ fun i => (f i : EReal)) = y := by
  classical
  obtain ⟨i, hi⟩ := hs
  rw [← Finset.insert_erase hi, Finset.fold_insert (Finset.notMem_erase i s)]
  exact max_fold_real _ (f i) f

/-- The running maximum stays real. -/
theorem running_max_real {κ : Type} [Fintype κ] (a : ℕ → κ → ℝ) (m : ℕ → EReal) (μ₀ : ℝ) (h0 : m 0 = μ₀)
    (hm : ∀ t, m (t + 1) = max (m t) (Finset.univ.fold max ⊥ fun j => (a t j : EReal))) (T : ℕ) :
    ∃ μ : ℝ, m T = μ := by
  induction T with
  | zero => exact ⟨μ₀, h0⟩
  | succ t ih =>
    obtain ⟨μ, hμ⟩ := ih
    rw [hm, hμ]
    exact max_fold_real _ μ (a t)

/-- A 32-bit float word whose exponent is not all ones is a real number. -/
theorem word_real (b : BitVec 32) (h : (b.extractLsb' 23 8).toNat ≠ 255) : ∃ r : ℝ, Ideal.ofBits .f32 b = (r : EReal) := by
  unfold Ideal.ofBits Ideal.ieee
  dsimp only
  rw [if_neg (show ¬(b.extractLsb' 23 8).toNat = 2 ^ 8 - 1 from h)]
  split
  · exact ⟨_, rfl⟩
  · exact ⟨_, rfl⟩

theorem exp2_real (r : ℝ) : Ideal.exp2 (r : EReal) = (((2 : ℝ) ^ r : ℝ) : EReal) := by
  rw [Ideal.exp2_coe]; rfl

/-- What the accumulator holds before chunk `T`. -/
theorem running_sum {κ : Type} [Fintype κ] (a : ℕ → κ → ℝ) (v : ℕ → κ → EReal) (m acc : ℕ → EReal) (μ : ℕ → ℝ)
    (hμ : ∀ t, m t = μ t) (h0 : acc 0 = 0)
    (hacc : ∀ t, acc (t + 1) = Ideal.exp2 (m t - m (t + 1)) * acc t
      + ∑ j, v t j * Ideal.exp2 ((a t j : EReal) - m (t + 1))) (T : ℕ) :
    acc T = ∑ t ∈ Finset.range T, ∑ j, v t j * (((2 : ℝ) ^ (a t j - μ T) : ℝ) : EReal) := by
  induction T with
  | zero => rw [h0, Finset.range_zero, Finset.sum_empty]
  | succ t ih =>
    rw [hacc, Finset.sum_range_succ, ih, hμ t, hμ (t + 1)]
    congr 1
    · rw [← EReal.coe_sub, exp2_real, real_mul_sum _ _ (Real.rpow_nonneg (by norm_num) _)]
      refine Finset.sum_congr rfl fun t' _ => ?_
      rw [real_mul_sum _ _ (Real.rpow_nonneg (by norm_num) _)]
      refine Finset.sum_congr rfl fun j _ => ?_
      rw [mul_left_comm, ← EReal.coe_mul]
      congr 2
      rw [← Real.rpow_add (by norm_num)]
      congr 1; ring

/-- Dividing by a positive real is multiplying by its inverse. -/
theorem div_coe (x : EReal) (l : ℝ) (hl : 0 < l) : Ideal.div x (l : EReal) = x * ((l⁻¹ : ℝ) : EReal) := by
  unfold Ideal.div
  rw [if_neg (by rw [← EReal.coe_zero]; exact fun h => hl.ne' (EReal.coe_injective h)), EReal.coe_inv]

/-- The two averages agree: weights that are powers of two relative to `μ`, summed, then divided; and weights that are
powers of e relative to `M` of the scores times `log 2`, divided first, then summed. -/
theorem average_eq {ι : Type} [Fintype ι] [Nonempty ι] (a b : ι → ℝ) (hb : ∀ i, b i = a i * Real.log 2)
    (v : ι → EReal) (μ M : ℝ) :
    Ideal.div (∑ i, v i * (((2 : ℝ) ^ (a i - μ) : ℝ) : EReal)) (∑ i, (((2 : ℝ) ^ (a i - μ) : ℝ) : EReal))
      = ∑ i, v i * Ideal.div (Ideal.exp ((b i : EReal) - M)) (∑ k, Ideal.exp ((b k : EReal) - M)) := by
  have hpos : 0 < ∑ i, (2 : ℝ) ^ (a i - μ) :=
    Finset.sum_pos (fun i _ => Real.rpow_pos_of_pos (by norm_num) _) Finset.univ_nonempty
  have hexp : ∀ i, Ideal.exp ((b i : EReal) - M) = ((Real.exp (b i - M) : ℝ) : EReal) := fun i => by
    rw [← EReal.coe_sub, Ideal.exp_coe]
  have hpos' : 0 < ∑ i, Real.exp (b i - M) :=
    Finset.sum_pos (fun i _ => Real.exp_pos _) Finset.univ_nonempty
  have hrel : ∀ i, Real.exp (b i - M) = Real.exp (μ * Real.log 2 - M) * (2 : ℝ) ^ (a i - μ) := fun i => by
    rw [Real.rpow_def_of_pos (by norm_num), ← Real.exp_add, hb]
    congr 1; ring
  have hsum : ∑ i, Real.exp (b i - M) = Real.exp (μ * Real.log 2 - M) * ∑ i, (2 : ℝ) ^ (a i - μ) := by
    rw [Finset.mul_sum]; exact Finset.sum_congr rfl fun i _ => hrel i
  simp only [hexp]
  rw [← coe_sum, ← coe_sum, div_coe _ _ hpos, mul_comm, real_mul_sum _ _ (inv_nonneg.mpr hpos.le)]
  refine Finset.sum_congr rfl fun i _ => ?_
  rw [div_coe _ _ hpos', ← EReal.coe_mul, mul_left_comm, ← EReal.coe_mul]
  congr 2
  rw [hrel i, hsum]
  have := hpos.ne'
  have := (Real.exp_pos (μ * Real.log 2 - M)).ne'
  field_simp

end Cert.Softmax

end
-- ==== Proof.Block.lean ====
module

public import proofs.«01_k».proof.Proof.Pay
public import proofs.«01_k».proof.Proof.Softmax
public import proofs.«01_k».proof.Proof.Run

@[expose] public section

set_option maxRecDepth 16384

noncomputable section

namespace Cert.KernelIdeal.Attn

open Idealize.ShloMosaic Idealize.ShloMosaic.TcCoe Idealize.ShloMosaic.Tactic
open Cert.KernelIdeal Cert.KernelIdeal.Gen

/-- Key `1280t + j`. -/
def keyAt (t : ℕ) (j : Fin 1280) : Fin 16640 := ⟨1280 * (t % 13) + j.val, by have := Nat.mod_lt t (show 0 < 13 by decide); omega⟩

/-- Query `256u + q` of a block. -/
def queryAt (u : Fin 4) (q : Fin 256) : Fin 1024 := ⟨256 * u.val + q.val, by omega⟩

theorem kChunk_apply (X : Vec Ideal S1x16640x256 .bf16) (t : ℕ) (j : Fin 1280) (e : Fin 256) :
    kChunk X t (ix3 0 j e) = X (ix3 0 (keyAt t j) e) := by
  unfold kChunk VecWindow.window
  congr 1
  funext k; fin_cases k <;> exact Fin.ext (by simp [Rect.emb, Rect.unit, keyAt]; try rfl)

theorem vChunk_apply (X : Vec Ideal S1x144x16640 .bf16) (t : ℕ) (r : Fin 144) (j : Fin 1280) :
    vChunk X t (ix3 0 r j) = X (ix3 0 r (keyAt t j)) := by
  unfold vChunk VecWindow.window
  congr 1
  funext k; fin_cases k <;> exact Fin.ext (by simp [Rect.emb, Rect.unit, keyAt]; try rfl)

theorem qSub_apply (X : Vec Ideal S1x256x1024 .bf16) (u : Fin 4) (e q : Fin 256) :
    qSub X u (ix3 0 e q) = X (ix3 0 e (queryAt u q)) := by
  unfold qSub VecWindow.window
  congr 1
  funext k; fin_cases k <;> exact Fin.ext (by simp [Rect.emb, Rect.unit, queryAt]; try rfl)

/-- A sum over all keys, chunk by chunk. -/
theorem sum_chunks (f : Fin 16640 → EReal) :
    ∑ t ∈ Finset.range 13, ∑ j : Fin 1280, f (keyAt t j) = ∑ i, f i := by
  rw [← Fin.sum_univ_eq_sum_range (fun t => ∑ j : Fin 1280, f (keyAt t j)) 13, ← Fintype.sum_prod_type']
  refine Fintype.sum_equiv (finProdFinEquiv (m := 13) (n := 1280)) _ _ fun p => ?_
  congr 1
  refine Fin.ext ?_
  have := Nat.mod_eq_of_lt p.1.isLt
  simp only [keyAt, finProdFinEquiv_apply_val, this]
  omega

theorem first_max_real : ∃ μ : ℝ, Ideal.ofBits .f32 0xF149F2CA#32 = (μ : EReal) :=
  Cert.Softmax.word_real _ (by decide)

theorem neg_inf : Ideal.ofBits .f32 0xFF800000#32 = (⊥ : EReal) := by
  simp [Ideal.ofBits, Ideal.ieee]

/-- One entry of a sub-block's result, where the scores of its query are real. -/
theorem outSub_real (X2 : Vec Ideal S1x256x1024 .bf16) (X3 : Vec Ideal S1x16640x256 .bf16) (X4 : Vec Ideal S1x144x16640 .bf16)
    (u : Fin 4) (q : Fin 256) (d : Fin 128) (a : Fin 16640 → ℝ)
    (ha : ∀ i, ∑ e : Fin 256, X3 (ix3 0 i e) * X2 (ix3 0 e (queryAt u q)) = (a i : EReal)) :
    ∃ μ : ℝ, outSub X2 X3 X4 u (ix2 q d)
      = Ideal.div (∑ i, X4 (ix3 0 ⟨d.val, by omega⟩ i) * (((2 : ℝ) ^ (a i - μ) : ℝ) : EReal))
          (∑ i, X4 (ix3 0 128 i) * (((2 : ℝ) ^ (a i - μ) : ℝ) : EReal)) := by
  have hs : ∀ t j, scoreAt (kChunk X3) (qSub X2 u) t (ix4 0 0 j q) = (a (keyAt t j) : EReal) := fun t j => by
    rw [score_apply, ← ha]
    exact Finset.sum_congr rfl fun e _ => by rw [kChunk_apply, qSub_apply]
  obtain ⟨μ₀, h0⟩ := first_max_real
  have hm : ∀ t, ∃ μ : ℝ, maxAt (kChunk X3) (qSub X2 u) t (ix2 0 q) = (μ : EReal) :=
    Cert.Softmax.running_max_real (fun t j => a (keyAt t j)) (fun t => maxAt (kChunk X3) (qSub X2 u) t (ix2 0 q)) μ₀
      ((max_zero _ _ q).trans h0) fun t => by
        rw [max_succ, neg_inf]; simp only [hs]
  choose μ hμ using hm
  have hacc : ∀ r, accAt (kChunk X3) (vChunk X4) (qSub X2 u) 13 (ix3 0 r q)
      = ∑ i, X4 (ix3 0 r i) * (((2 : ℝ) ^ (a i - μ 13) : ℝ) : EReal) := fun r => by
    rw [Cert.Softmax.running_sum (fun t j => a (keyAt t j)) (fun t j => X4 (ix3 0 r (keyAt t j)))
      (fun t => maxAt (kChunk X3) (qSub X2 u) t (ix2 0 q)) (fun t => accAt (kChunk X3) (vChunk X4) (qSub X2 u) t (ix3 0 r q))
      μ hμ ?_ ?_ 13]
    · exact sum_chunks fun i => X4 (ix3 0 r i) * (((2 : ℝ) ^ (a i - μ 13) : ℝ) : EReal)
    · show Ideal.ofBits .f32 0x00000000#32 = 0
      simp [Ideal.ofBits, Ideal.ieee]
    · intro t
      rw [acc_succ, scale_apply]
      simp only [weight_apply, hs, vChunk_apply]
  refine ⟨μ 13, ?_⟩
  unfold outSub
  rw [quot_apply, hacc, hacc]

/-- Row `256u + q` of the block is row `q` of sub-block `u`. -/
theorem outBlock_apply (X2 : Vec Ideal S1x256x1024 .bf16) (X3 : Vec Ideal S1x16640x256 .bf16) (X4 : Vec Ideal S1x144x16640 .bf16)
    (r : Fin 1024) (d : Fin 128) :
    outBlock X2 X3 X4 (ix2 r d) = outSub X2 X3 X4 ⟨r.val / 256, by omega⟩ (ix2 ⟨r.val % 256, by omega⟩ d) := by
  unfold outBlock
  refine View.canon_apply_of_pieces
    (fun y : S1024x128.Idx => outSub X2 X3 X4 ⟨(y 0).val / 256, by have : (y 0).val < 1024 := (y 0).isLt; omega⟩
      (ix2 ⟨(y 0).val % 256, by omega⟩ (y 1))) (outList (outSub X2 X3 X4)) ?_ (ix2 r d) (outList_cover _ _)
  have key : ∀ (u : Fin 4) (o : ℕ) (ho : o = 256 * u.val) (inb : ∀ a, (![o, 0] : Fin 2 → ℕ) a + S256x128.size a ≤ S1024x128.size a)
      (x : (Rect.unit (s := S1024x128) ![o, 0] S256x128.size inb).shape.Idx),
      outSub X2 X3 X4 u x = (fun y : S1024x128.Idx => outSub X2 X3 X4 ⟨(y 0).val / 256, by have : (y 0).val < 1024 := (y 0).isLt; omega⟩
        (ix2 ⟨(y 0).val % 256, by omega⟩ (y 1))) ((Rect.unit (s := S1024x128) ![o, 0] S256x128.size inb).emb x) := by
    intro u o ho inb x
    subst ho
    have h0 : (x 0).val < 256 := (x 0).isLt
    have e0 : ((Rect.unit (s := S1024x128) ![256 * u.val, 0] S256x128.size inb).emb x 0).val = 256 * u.val + 1 * (x 0).val := rfl
    dsimp only
    congr 1
    · refine Fin.ext ?_
      show u.val = _ / 256
      rw [e0]; omega
    · funext k
      fin_cases k
      · refine Fin.ext ?_
        show (x 0).val = _ % 256
        rw [e0]; omega
      · refine Fin.ext ?_
        show (x 1).val = 0 + 1 * (x 1).val
        omega
  intro p hp x
  simp only [outList, List.mem_cons, List.not_mem_nil, or_false] at hp
  rcases hp with rfl | rfl | rfl | rfl
  · exact key 3 768 rfl (by decide) x
  · exact key 2 512 rfl (by decide) x
  · exact key 1 256 rfl (by decide) x
  · exact key 0 0 rfl (by decide) x

end Cert.KernelIdeal.Attn

end

end
-- ==== Proof.Operands.lean ====
module

public import proofs.«01_k».proof.Proof.Gen.KernelIdeal.Launch
public import proofs.«01_k».proof.Proof.Gen.KernelIdeal.Frame
public import Idealize.ShloMosaic.Lib.Claim
public import Idealize.ShloMosaic.Lib.Pointwise
public import Idealize.ShloMosaic.Lib.ValueIdx

@[expose] public section

set_option maxRecDepth 16384

noncomputable section

namespace Cert.KernelIdeal.Attn

open Idealize.ShloMosaic Idealize.ShloMosaic.TcCoe Idealize.ShloMosaic.Tactic Idealize.ShloMosaic.StableHlo
open Cert.KernelIdeal Cert.KernelIdeal.Gen

section Terms
variable {F : FTy → Type} [FloatOps F]
variable (q : FVec F S16384x8x128 .f32) (qr : FVec F S16384x8x64 .f32) (k : FVec F S16640x8x128 .f32)
  (kr : FVec F S16640x64 .f32) (v : FVec F S16640x8x128 .f32)

/-- The scale of the scores, in base two. -/
def scale : FVec F S_ .f32 := Host.divf (constant S_ .f32 0x3D93CD3A#32) (Host.log (constant S_ .f32 0x40000000#32))

/-- The queries as the call takes them: both parts and 64 zeros, scaled, one row per entry. -/
def queries : FVec F S8x256x16384 .bf16 :=
  truncf .bf16 (transpose S8x256x16384 [1, 2, 0]
    (mulf (concatenate S16384x8x256 2 [⟨S16384x8x128, q⟩, ⟨S16384x8x64, qr⟩,
        ⟨S16384x8x64, broadcastInDim S16384x8x64 ![] bcast_S_S16384x8x64 (constant S_ .f32 0x00000000#32)⟩]
        concatenates_S16384x8x128_S16384x8x64_S16384x8x64_S16384x8x256_d2)
      (broadcastInDim S16384x8x256 ![] bcast_S_S16384x8x256 (scale (F := F))))
    transposes_S16384x8x256_S8x256x16384_1_2_0) bitsLt_bf16_f32

/-- The keys as the call takes them: both parts and 64 zeros. -/
def keys : FVec F S8x16640x256 .bf16 :=
  truncf .bf16 (transpose S8x16640x256 [1, 0, 2]
    (concatenate S16640x8x256 2 [⟨S16640x8x128, k⟩,
        ⟨S16640x8x64, broadcastInDim S16640x8x64 ![0, 1, 2] bcast_S16640x1x64_S16640x8x64_0_1_2
          (broadcastInDim S16640x1x64 ![0, 2] bcast_S16640x64_S16640x1x64_0_2 kr)⟩,
        ⟨S16640x8x64, broadcastInDim S16640x8x64 ![] bcast_S_S16640x8x64 (constant S_ .f32 0x00000000#32)⟩]
        concatenates_S16640x8x128_S16640x8x64_S16640x8x64_S16640x8x256_d2)
    transposes_S16640x8x256_S8x16640x256_1_0_2) bitsLt_bf16_f32

/-- The values as the call takes them: one row per entry, a row of ones and 15 of zeros. -/
def values : FVec F S8x144x16640 .bf16 :=
  truncf .bf16 (concatenate S8x144x16640 1
    [⟨S8x128x16640, transpose S8x128x16640 [1, 2, 0] v transposes_S16640x8x128_S8x128x16640_1_2_0⟩,
      ⟨S8x1x16640, broadcastInDim S8x1x16640 ![] bcast_S_S8x1x16640 (constant S_ .f32 0x3F800000#32)⟩,
      ⟨S8x15x16640, broadcastInDim S8x15x16640 ![] bcast_S_S8x15x16640 (constant S_ .f32 0x00000000#32)⟩]
    concatenates_S8x128x16640_S8x1x16640_S8x15x16640_S8x144x16640_d1) bitsLt_bf16_f32

variable (m : (ℓ : Loc nD τ sig) → Buf (Elt F) ℓ)

theorem V_queries (c : Dev nD) : V m c main_v7
    = queries (m ((c.tc : Thread nD τ).loc main_arg0)) (m ((c.tc : Thread nD τ).loc main_arg1)) := by
  unfold V
  after_results <;> rfl

theorem V_keys (c : Dev nD) : V m c main_v13
    = keys (m ((c.tc : Thread nD τ).loc main_arg2)) (m ((c.tc : Thread nD τ).loc main_arg3)) := by
  unfold V
  after_results <;> rfl

theorem V_values (c : Dev nD) : V m c main_v18 = values (m ((c.tc : Thread nD τ).loc main_arg4)) := by
  unfold V
  after_results <;> rfl

end Terms

variable (q : FVec Ideal S16384x8x128 .f32) (qr : FVec Ideal S16384x8x64 .f32) (k : FVec Ideal S16640x8x128 .f32)
  (kr : FVec Ideal S16640x64 .f32) (v : FVec Ideal S16640x8x128 .f32)

theorem queries_apply (h : Fin 8) (e : Fin 256) (n : Fin 16384) : queries q qr (ix3 h e n)
    = (if h₁ : e.val < 128 then q (ix3 n h ⟨e.val, h₁⟩) else if h₂ : e.val - 128 < 64 then qr (ix3 n h ⟨e.val - 128, h₂⟩) else 0)
      * scale (F := Ideal) ix0 := by
  unfold queries
  pointwise

theorem keys_apply (h : Fin 8) (i : Fin 16640) (e : Fin 256) : keys k kr (ix3 h i e)
    = if h₁ : e.val < 128 then k (ix3 i h ⟨e.val, h₁⟩) else if h₂ : e.val - 128 < 64 then kr (ix2 i ⟨e.val - 128, h₂⟩) else 0 := by
  unfold keys
  pointwise

theorem values_apply (h : Fin 8) (d : Fin 128) (i : Fin 16640) : values v (ix3 h ⟨d.val, by omega⟩ i) = v (ix3 i h d) := by
  unfold values
  pointwise

theorem values_one (h : Fin 8) (i : Fin 16640) : values v (ix3 h 128 i) = 1 := by
  unfold values
  pointwise

theorem scale_eq : scale (F := Ideal) ix0 = Ideal.div (Ideal.ofBits .f32 0x3D93CD3A#32) (Ideal.log (Ideal.ofBits .f32 0x40000000#32)) := by
  unfold scale
  pointwise

end Cert.KernelIdeal.Attn

end

end
-- ==== Proof.RefValue.lean ====
module

public import proofs.«01_k».proof.Proof.Gen.ReferenceIdeal.Run
public import Idealize.ShloMosaic.Lib.Claim
public import Idealize.ShloMosaic.Lib.Pointwise
public import Idealize.ShloMosaic.Lib.ValueIdx

@[expose] public section

set_option maxRecDepth 16384

noncomputable section

namespace Cert.ReferenceIdeal.Attn

open Idealize.ShloMosaic Idealize.ShloMosaic.TcCoe Idealize.ShloMosaic.Tactic
open Cert.ReferenceIdeal Cert.ReferenceIdeal.Gen

variable (q : FVec Ideal S16384x8x128 .f32) (qr : FVec Ideal S16384x8x64 .f32) (k : FVec Ideal S16640x8x128 .f32)
  (kr : FVec Ideal S16640x64 .f32) (v : FVec Ideal S16640x8x128 .f32)

/-- The scores: the two products, added and scaled. -/
def scores : FVec Ideal S8x16384x16640 .f32 :=
  mulf (addf (Host.dotGeneral dot_S16384x8x128_S16640x8x128_S8x16384x16640_2_2_0_0_1_1 none q k)
    (transpose S8x16384x16640 [2, 1, 0]
      (Host.dotGeneral dot_S16640x64_S16384x8x64_S16640x16384x8_1_2_0_01_n_n none kr qr)
      transposes_S16640x16384x8_S8x16384x16640_2_1_0))
    (broadcastInDim S8x16384x16640 ![] bcast_S_S8x16384x16640 (constant S_ .f32 0x3D93CD3A#32))

/-- The largest score of each query. -/
def rowMax (s : FVec Ideal S8x16384x16640 .f32) : FVec Ideal S8x16384 .f32 :=
  maximumf (broadcastInDim S8x16384 ![] bcast_S_S8x16384 (constant S_ .f32 0xFF800000#32))
    (Host.reduce FloatOps.maximumf s (constant S_ .f32 0xFF800000#32) reducesTo_S8x16384x16640_S8x16384_d2 h_S_)

/-- The exponentials of the scores less the largest. -/
def weights (s : FVec Ideal S8x16384x16640 .f32) (M : FVec Ideal S8x16384 .f32) : FVec Ideal S8x16384x16640 .f32 :=
  Host.exp (subf s (broadcastInDim S8x16384x16640 ![0, 1, 2] bcast_S8x16384x1_S8x16384x16640_0_1_2
    (broadcastInDim S8x16384x1 ![0, 1] bcast_S8x16384_S8x16384x1_0_1 M)))

/-- The values averaged by the weights. -/
def average (w : FVec Ideal S8x16384x16640 .f32) : FVec Ideal S16384x1024 .bf16 :=
  truncf .bf16 (shapeCast S16384x1024 (transpose S16384x8x128 [2, 0, 1]
    (Host.dotGeneral dot_S16640x8x128_S8x16384x16640_S8x128x16384_0_2_2_1_1_0 none v
      (Host.divf w (broadcastInDim S8x16384x16640 ![0, 1, 2] bcast_S8x16384x1_S8x16384x16640_0_1_2
        (broadcastInDim S8x16384x1 ![0, 1] bcast_S8x16384_S8x16384x1_0_1
          (Host.reduceAdd w (constant S_ .f32 0x00000000#32) reducesTo_S8x16384x16640_S8x16384_d2 h_S_)))))
    transposes_S8x128x16384_S16384x8x128_2_0_1) shapeCasts_S16384x8x128_S16384x1024) bitsLt_bf16_f32

/-- The reference's result. -/
def result : FVec Ideal S16384x1024 .bf16 :=
  average v (weights (scores q qr k kr) (rowMax (scores q qr k kr)))

theorem scores_apply (h : Fin 8) (n : Fin 16384) (i : Fin 16640) :
    scores q qr k kr (ix3 h n i)
      = (∑ d : Fin 128, q (ix3 n h d) * k (ix3 i h d) + ∑ r : Fin 64, kr (ix2 i r) * qr (ix3 n h r))
        * Ideal.ofBits .f32 0x3D93CD3A#32 := by
  unfold scores
  pointwise

/-- A maximum over the last of three axes is a fold. -/
theorem lastMax {n0 n1 n2 : ℕ} (x : FVec Ideal ⟨3, ![n0, n1, n2]⟩ .f32) (c : FVec Ideal S_ .f32)
    (h : (⟨3, ![n0, n1, n2]⟩ : Shape).ReducesTo [2] ⟨2, ![n0, n1]⟩) (hu : 0 < S_.numel) (a : Fin n0) (b : Fin n1) :
    Host.reduce FloatOps.maximumf x c h hu (ix2 a b)
      = Finset.univ.fold max (c (Shape.Idx.first hu)) fun k : Fin n2 => x (ix3 a b k) := by
  simp only [pointwise]

theorem rowMax_apply (s : FVec Ideal S8x16384x16640 .f32) (h : Fin 8) (n : Fin 16384) :
    rowMax s (ix2 h n) = max (Ideal.ofBits .f32 0xFF800000#32)
      (Finset.univ.fold max (Ideal.ofBits .f32 0xFF800000#32) fun i : Fin 16640 => s (ix3 h n i)) := by
  unfold rowMax
  rw [maximumf_apply, lastMax]
  simp only [pointwise]

theorem weights_apply (s : FVec Ideal S8x16384x16640 .f32) (M : FVec Ideal S8x16384 .f32) (h : Fin 8) (n : Fin 16384)
    (i : Fin 16640) : weights s M (ix3 h n i) = Ideal.exp (s (ix3 h n i) - M (ix2 h n)) := by
  unfold weights
  pointwise

theorem average_apply (w : FVec Ideal S8x16384x16640 .f32) (n : Fin 16384) (j : Fin 1024) :
    average v w (ix2 n j) = ∑ i : Fin 16640, v (ix3 i ⟨j.val / 128, by omega⟩ ⟨j.val % 128, by omega⟩)
      * Ideal.div (w (ix3 ⟨j.val / 128, by omega⟩ n i)) (∑ l : Fin 16640, w (ix3 ⟨j.val / 128, by omega⟩ n l)) := by
  unfold average
  pointwise

theorem run_result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = result (m ((c.tc : Thread nD τ).loc main_arg0))
        (m ((c.tc : Thread nD τ).loc main_arg1)) (m ((c.tc : Thread nD τ).loc main_arg2))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run (F := Ideal) m ρ

end Cert.ReferenceIdeal.Attn

end

end
-- ==== Proof.Equation.lean ====
module

public import proofs.«01_k».proof.Proof.Operands
public import proofs.«01_k».proof.Proof.RefValue
public import proofs.«01_k».proof.Proof.Softmax

/-!
  The scores of the kernel and of the reference, over the reals.

  The kernel's scores are the reference's divided by the logarithm of two: it scales the queries by the
  quotient of the scale and that logarithm, and pads both operands with zeros.
-/

@[expose] public section

set_option maxRecDepth 16384

noncomputable section

namespace Cert.Attn

open Idealize.ShloMosaic

/-- A sum over 256 positions of which the last 64 are zero. -/
theorem sum_parts (f : Fin 256 → EReal) (f₁ : Fin 128 → EReal) (f₂ : Fin 64 → EReal)
    (h : ∀ e, f e = if h₁ : e.val < 128 then f₁ ⟨e.val, h₁⟩ else if h₂ : e.val - 128 < 64 then f₂ ⟨e.val - 128, h₂⟩ else 0) :
    ∑ e, f e = ∑ d, f₁ d + ∑ r, f₂ r := by
  have h3 := Fin.sum_univ_add (a := 128) (b := 128) f
  have h4 := Fin.sum_univ_add (a := 64) (b := 64) fun i : Fin 128 => f (Fin.natAdd 128 i)
  refine h3.trans ?_
  congr 1
  · refine Finset.sum_congr rfl fun d _ => ?_
    rw [h, dif_pos (show (Fin.castAdd 128 d).val < 128 from d.isLt)]
    rfl
  · refine h4.trans ?_
    have hz : ∀ r : Fin 64, f (Fin.natAdd 128 (Fin.natAdd 64 r)) = 0 := fun r => by
      rw [h, dif_neg (by simp), dif_neg (by simp)]
    rw [Finset.sum_congr rfl fun r _ => hz r, Finset.sum_const_zero, add_zero]
    refine Finset.sum_congr rfl fun r _ => ?_
    rw [h, dif_neg (by simp), dif_pos (by simp)]
    congr 1
    exact Fin.ext (by simp)

theorem two_word : Ideal.ofBits .f32 0x40000000#32 = ((2 : ℝ) : EReal) := by
  simp [Ideal.ofBits, Ideal.ieee, -EReal.coe_mul]; norm_num

theorem log_two_pos : 0 < Real.log 2 := Real.log_pos (by norm_num)

/-- The kernel's scale is the reference's divided by the logarithm of two. -/
theorem scale_real (ρ : ℝ) (hρ : Ideal.ofBits .f32 0x3D93CD3A#32 = (ρ : EReal)) :
    KernelIdeal.Attn.scale (F := Ideal) ix0 = ((ρ / Real.log 2 : ℝ) : EReal) := by
  rw [KernelIdeal.Attn.scale_eq, hρ, two_word, Ideal.log_coe, if_neg (by norm_num), Softmax.div_coe _ _ log_two_pos, ← EReal.coe_mul, div_eq_mul_inv]

variable (q : FVec Ideal KernelIdeal.S16384x8x128 .f32) (qr : FVec Ideal KernelIdeal.S16384x8x64 .f32)
  (k : FVec Ideal KernelIdeal.S16640x8x128 .f32) (kr : FVec Ideal KernelIdeal.S16640x64 .f32)

/-- The scores, where the entries are real: the reference's `b`, and the kernel's `a` with `b = a · log 2`. -/
theorem scores_real (hq : ∀ i, ∃ r : ℝ, q i = (r : EReal)) (hqr : ∀ i, ∃ r : ℝ, qr i = (r : EReal))
    (hk : ∀ i, ∃ r : ℝ, k i = (r : EReal)) (hkr : ∀ i, ∃ r : ℝ, kr i = (r : EReal)) (h : Fin 8) (n : Fin 16384) :
    ∃ a b : Fin 16640 → ℝ, (∀ i, b i = a i * Real.log 2)
      ∧ (∀ i, ∑ e : Fin 256, KernelIdeal.Attn.keys k kr (ix3 h i e) * KernelIdeal.Attn.queries q qr (ix3 h e n) = (a i : EReal))
      ∧ ∀ i, ReferenceIdeal.Attn.scores q qr k kr (ix3 h n i) = (b i : EReal) := by
  obtain ⟨ρ, hρ⟩ := Softmax.word_real 0x3D93CD3A#32 (by decide)
  choose q' hq using hq
  choose qr' hqr using hqr
  choose k' hk using hk
  choose kr' hkr using hkr
  refine ⟨fun i => (∑ d : Fin 128, k' (ix3 i h d) * (q' (ix3 n h d) * (ρ / Real.log 2)))
      + ∑ r : Fin 64, kr' (ix2 i r) * (qr' (ix3 n h r) * (ρ / Real.log 2)),
    fun i => (∑ d : Fin 128, q' (ix3 n h d) * k' (ix3 i h d) + ∑ r : Fin 64, kr' (ix2 i r) * qr' (ix3 n h r)) * ρ, ?_, ?_, ?_⟩
  · intro i
    have hl := log_two_pos.ne'
    simp only [add_mul, Finset.sum_mul]
    congr 1 <;> refine Finset.sum_congr rfl fun d _ => ?_ <;> field_simp
  · intro i
    rw [sum_parts _ (fun d => k (ix3 i h d) * (q (ix3 n h d) * KernelIdeal.Attn.scale (F := Ideal) ix0))
      (fun r => kr (ix2 i r) * (qr (ix3 n h r) * KernelIdeal.Attn.scale (F := Ideal) ix0)) ?_]
    · simp only [hq, hqr, hk, hkr, scale_real ρ hρ, ← EReal.coe_mul, ← Softmax.coe_sum, ← EReal.coe_add]
    · intro e
      rw [KernelIdeal.Attn.keys_apply, KernelIdeal.Attn.queries_apply]
      split
      · rfl
      · split
        · rfl
        · rw [zero_mul]
  · intro i
    rw [ReferenceIdeal.Attn.scores_apply, hρ]
    simp only [hq, hqr, hk, hkr, ← EReal.coe_mul, ← Softmax.coe_sum, ← EReal.coe_add]

end Cert.Attn

end

end
-- ==== Proof.Finite.lean ====
module

public import proofs.«01_k».proof.Proof.Gen.Pre_finite
public import Idealize.ShloMosaic.Lib.Claim
public import Idealize.ShloMosaic.Lib.Pointwise
public import Idealize.ShloMosaic.Lib.ValueIdx
public import Idealize.ShloMosaic.Lib.ReduceAll

/-!
  The precondition, read: every entry of the queries' and the keys' two parts is a real number.
-/

@[expose] public section

set_option maxRecDepth 16384

noncomputable section

namespace Cert.Pre_finite.Attn

open Idealize.ShloMosaic Idealize.ShloMosaic.TcCoe Idealize.ShloMosaic.Tactic
open Cert.Pre_finite Cert.Pre_finite.Facts

/-- A number whose absolute value is below infinity is real. -/
theorem real_of_abs {x : EReal} (h : max x (-x) < ⊤) : ∃ r : ℝ, x = r := by
  induction x with
  | bot => simp at h
  | coe r => exact ⟨r, rfl⟩
  | top => simp at h

theorem inf_word : Ideal.ofBits .f32 0x7F800000#32 = (⊤ : EReal) := by
  simp [Ideal.ofBits, Ideal.ieee]

/-- One array's test, true, says its entries are real. -/
theorem real_of_all {s t : Shape} [Subsingleton t.Idx] {axes : List (Fin s.rank)} (x : FVec Ideal s .f32)
    (b : S_.BroadcastsInDim s (![] : Fin 0 → Fin s.rank)) (i1 : IVec S_ 1) (h : s.ReducesTo axes t) (hu : 0 < S_.numel) (j : t.Idx)
    (e : Host.reduce IntOp.andi (cmpf .olt (Host.absf x) (broadcastInDim s ![] b (constant S_ .f32 0x7F800000#32))) i1 h hu j = 1#1)
    (i : s.Idx) : ∃ r : ℝ, x i = (r : EReal) := by
  have h1 := Host.reduce_andi_all _ _ h hu j e i
  have h2 : Ideal.cmp .olt (max (x i) (-(x i))) (Ideal.ofBits .f32 0x7F800000#32) = 1#1 := h1
  rw [inf_word] at h2
  refine real_of_abs ?_
  by_contra hn
  simp [Ideal.cmp, hn] at h2

variable [Cert.Pre_finite.Facts]

theorem reals (q : FVec Ideal S16384x8x128 .f32) (qr : FVec Ideal S16384x8x64 .f32) (k : FVec Ideal S16640x8x128 .f32)
    (kr : FVec Ideal S16640x64 .f32) (v : FVec Ideal S16640x8x128 .f32) (h : fn (F := Ideal) q qr k kr v = fun _ => 1#1) :
    (∀ i, ∃ r : ℝ, q i = (r : EReal)) ∧ (∀ i, ∃ r : ℝ, qr i = (r : EReal)) ∧ (∀ i, ∃ r : ℝ, k i = (r : EReal))
      ∧ ∀ i, ∃ r : ℝ, kr i = (r : EReal) := by
  haveI : Subsingleton S_.Idx := ⟨fun a b => funext fun k => k.elim0⟩
  have h0 := congrFun h ix0
  unfold fn fn_part1 at h0
  dsimp only at h0
  obtain ⟨h123, h4⟩ := IntOp.andi_eq_one.1 h0
  obtain ⟨h12, h3⟩ := IntOp.andi_eq_one.1 h123
  obtain ⟨h1, h2⟩ := IntOp.andi_eq_one.1 h12
  exact ⟨real_of_all q _ _ _ _ _ h1, real_of_all qr _ _ _ _ _ h2, real_of_all k _ _ _ _ _ h3, real_of_all kr _ _ _ _ _ h4⟩

end Cert.Pre_finite.Attn

end

end
-- ==== Proof.Value.lean ====
module

public import proofs.«01_k».proof.Proof.Block
public import proofs.«01_k».proof.Proof.Equation
public import proofs.«01_k».proof.Proof.Finite
public import proofs.«01_k».proof.Proof.Frames

/-!
  The result array.

  Grid point `16h + i` writes rows `1024i ..` and columns `128h ..`; entry `(r, d)` of its block is the average of the
  values of head `h` for query `1024i + r`. So the array the launch leaves is the reference's.
-/

@[expose] public section

set_option maxRecDepth 16384

noncomputable section

namespace Cert.KernelIdeal.Attn

open Idealize.ShloMosaic Idealize.ShloMosaic.TcCoe Idealize.ShloMosaic.Tactic Idealize.ShloMosaic.StableHlo Idealize.SL.Sem
open Idealize.ShloMosaic.Pipeline
open Cert.KernelIdeal Cert.KernelIdeal.Gen

/-! ## The equation of one entry -/

section Entry

variable (q : FVec Ideal S16384x8x128 .f32) (qr : FVec Ideal S16384x8x64 .f32) (k : FVec Ideal S16640x8x128 .f32)
  (kr : FVec Ideal S16640x64 .f32) (v : FVec Ideal S16640x8x128 .f32)

/-- The reference's result on the kernel's arguments. -/
abbrev target : FVec Ideal S16384x1024 .bf16 := Cert.ReferenceIdeal.Attn.result q qr k kr v

theorem target_apply (hq : ∀ i, ∃ r : ℝ, q i = (r : EReal)) (hqr : ∀ i, ∃ r : ℝ, qr i = (r : EReal))
    (hk : ∀ i, ∃ r : ℝ, k i = (r : EReal)) (hkr : ∀ i, ∃ r : ℝ, kr i = (r : EReal))
    (X2 : Vec Ideal S1x256x1024 .bf16) (X3 : Vec Ideal S1x16640x256 .bf16) (X4 : Vec Ideal S1x144x16640 .bf16)
    (h : Fin 8) (i : Fin 16)
    (h2 : ∀ (e : Fin 256) (r : Fin 1024), X2 (ix3 0 e r) = queries q qr (ix3 h e ⟨1024 * i.val + r.val, by omega⟩))
    (h3 : ∀ (l : Fin 16640) (e : Fin 256), X3 (ix3 0 l e) = keys k kr (ix3 h l e))
    (h4 : ∀ (d : Fin 144) (l : Fin 16640), X4 (ix3 0 d l) = values v (ix3 h d l)) (r : Fin 1024) (d : Fin 128) :
    outBlock X2 X3 X4 (ix2 r d)
      = target q qr k kr v (ix2 ⟨1024 * i.val + r.val, by omega⟩ ⟨128 * h.val + d.val, by omega⟩) := by
  obtain ⟨a, b, hb, ha, hs⟩ := Cert.Attn.scores_real q qr k kr hq hqr hk hkr h ⟨1024 * i.val + r.val, by omega⟩
  have hr : queryAt ⟨r.val / 256, by omega⟩ ⟨r.val % 256, by omega⟩ = r := Fin.ext (Nat.div_add_mod r.val 256)
  obtain ⟨μ, hμ⟩ := outSub_real X2 X3 X4 ⟨r.val / 256, by omega⟩ ⟨r.val % 256, by omega⟩ d a fun l => by
    rw [← ha l]
    refine Finset.sum_congr rfl fun e _ => ?_
    rw [hr, h2, h3]
  rw [outBlock_apply, hμ]
  simp only [h4, values_apply, values_one, one_mul]
  obtain ⟨M, hM⟩ : ∃ M : ℝ, Cert.ReferenceIdeal.Attn.rowMax (Cert.ReferenceIdeal.Attn.scores q qr k kr)
      (ix2 h ⟨1024 * i.val + r.val, by omega⟩) = (M : EReal) := by
    rw [Cert.ReferenceIdeal.Attn.rowMax_apply, neg_inf]
    simp only [hs]
    obtain ⟨y, hy⟩ := Cert.Softmax.fold_real Finset.univ Finset.univ_nonempty b
    exact ⟨y, by rw [hy]; exact max_eq_right bot_le⟩
  unfold target Cert.ReferenceIdeal.Attn.result
  rw [Cert.ReferenceIdeal.Attn.average_apply]
  have e1 : (⟨(128 * h.val + d.val) / 128, by omega⟩ : Fin 8) = h := Fin.ext (by show (128 * h.val + d.val) / 128 = h.val; omega)
  have e2 : (⟨(128 * h.val + d.val) % 128, by omega⟩ : Fin 128) = d := Fin.ext (by show (128 * h.val + d.val) % 128 = d.val; omega)
  simp only [e1, e2, Cert.ReferenceIdeal.Attn.weights_apply, hs, hM]
  exact Cert.Softmax.average_eq a b hb _ μ M

end Entry

/-! ## The blocks -/

variable (m : (ℓ : Loc nD τ sig) → Buf (Elt Ideal) ℓ)

/-- The head and the block of queries of a grid point. -/
def headOf (t : Fin cfg0.N) : Fin 8 := ⟨t.val / 16, by have : cfg0.N = 128 := N_0; have := t.isLt; omega⟩
def rowOf (t : Fin cfg0.N) : Fin 16 := ⟨t.val % 16, by omega⟩

theorem index_0 : ∀ t : Fin cfg0.N, win0_0.index t 0 = (headOf t).val ∧ win0_0.index t 1 = 0 ∧ win0_0.index t 2 = (rowOf t).val := by
  decide +kernel
theorem index_1 : ∀ t : Fin cfg0.N, win0_1.index t 0 = (headOf t).val ∧ win0_1.index t 1 = 0 ∧ win0_1.index t 2 = 0 := by
  decide +kernel
theorem index_2 : ∀ t : Fin cfg0.N, win0_2.index t 0 = (headOf t).val ∧ win0_2.index t 1 = 0 ∧ win0_2.index t 2 = 0 := by
  decide +kernel
theorem index_3 : ∀ t : Fin cfg0.N, win0_3.index t 0 = (rowOf t).val ∧ win0_3.index t 1 = (headOf t).val := by
  decide +kernel

theorem block_0 (c : Dev nD) (t : Fin cfg0.N) (e : Fin 256) (r : Fin 1024) :
    (iblk m c 0 t : Vec Ideal S1x256x1024 .bf16) (ix3 0 e r)
      = (V m c main_v7 : Vec Ideal S8x256x16384 .bf16) (ix3 (headOf t) e ⟨1024 * (rowOf t).val + r.val, by omega⟩) := by
  obtain ⟨h0, h1, h2⟩ := index_0 t
  unfold iblk
  rw [View.read_apply]
  show V m c main_v7 _ = V m c main_v7 _
  congr 1
  funext a
  apply Fin.ext
  match a with
  | ⟨0, _⟩ => show win0_0.index t 0 * 1 + 1 * 0 = (headOf t).val; rw [h0]; omega
  | ⟨1, _⟩ => show win0_0.index t 1 * 256 + 1 * e.val = e.val; rw [h1]; omega
  | ⟨2, _⟩ => show win0_0.index t 2 * 1024 + 1 * r.val = 1024 * (rowOf t).val + r.val; rw [h2]; omega

theorem block_1 (c : Dev nD) (t : Fin cfg0.N) (l : Fin 16640) (e : Fin 256) :
    (iblk m c 1 t : Vec Ideal S1x16640x256 .bf16) (ix3 0 l e)
      = (V m c main_v13 : Vec Ideal S8x16640x256 .bf16) (ix3 (headOf t) l e) := by
  obtain ⟨h0, h1, h2⟩ := index_1 t
  unfold iblk
  rw [View.read_apply]
  show V m c main_v13 _ = V m c main_v13 _
  congr 1
  funext a
  apply Fin.ext
  match a with
  | ⟨0, _⟩ => show win0_1.index t 0 * 1 + 1 * 0 = (headOf t).val; rw [h0]; omega
  | ⟨1, _⟩ => show win0_1.index t 1 * 16640 + 1 * l.val = l.val; rw [h1]; omega
  | ⟨2, _⟩ => show win0_1.index t 2 * 256 + 1 * e.val = e.val; rw [h2]; omega

theorem block_2 (c : Dev nD) (t : Fin cfg0.N) (d : Fin 144) (l : Fin 16640) :
    (iblk m c 2 t : Vec Ideal S1x144x16640 .bf16) (ix3 0 d l)
      = (V m c main_v18 : Vec Ideal S8x144x16640 .bf16) (ix3 (headOf t) d l) := by
  obtain ⟨h0, h1, h2⟩ := index_2 t
  unfold iblk
  rw [View.read_apply]
  show V m c main_v18 _ = V m c main_v18 _
  congr 1
  funext a
  apply Fin.ext
  match a with
  | ⟨0, _⟩ => show win0_2.index t 0 * 1 + 1 * 0 = (headOf t).val; rw [h0]; omega
  | ⟨1, _⟩ => show win0_2.index t 1 * 144 + 1 * d.val = d.val; rw [h1]; omega
  | ⟨2, _⟩ => show win0_2.index t 2 * 16640 + 1 * l.val = l.val; rw [h2]; omega

/-! ## The array -/

/-- The reference's result on the launch contents of the arguments. -/
def goal (c : Dev nD) : Buf (Elt Ideal) ((c.tc : Thread nD τ).loc main_v19) :=
  target (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))

variable [Cert.Pre_finite.Facts]

theorem flushed_eq (hpre : Cert.Pre_KernelIdeal_finite m) (c : Dev nD) (t : Fin cfg0.N) :
    (dats m 0 c).flushed 3 t = ((cfg0.win 3).blk t).view.read (Elt Ideal) (goal m c) := by
  obtain ⟨hq, hqr, hk, hkr⟩ := Cert.Pre_finite.Attn.reals _ _ _ _ _ (hpre c)
  obtain ⟨i0, i1⟩ := index_3 t
  have key : ∀ (r : Fin 1024) (d : Fin 128), outBlock (iblk m c 0 t) (iblk m c 1 t) (iblk m c 2 t) (ix2 r d)
      = goal m c (ix2 ⟨1024 * (rowOf t).val + r.val, by omega⟩ ⟨128 * (headOf t).val + d.val, by omega⟩) := fun r d =>
    target_apply _ _ _ _ _ hq hqr hk hkr _ _ _ (headOf t) (rowOf t)
      (fun e r => (block_0 m c t e r).trans (congrFun (V_queries m c) _))
      (fun l e => (block_1 m c t l e).trans (congrFun (V_keys m c) _))
      (fun d l => (block_2 m c t d l).trans (congrFun (V_values m c) _)) r d
  show (cfg0.win 3).cut (grid0.coords t) ((dats m 0 c).after 3 t) = _
  rw [after0_3]
  funext j
  have h0 : (j 0).val < 1024 := (j 0).isLt
  have h1 : (j 1).val < 128 := (j 1).isLt
  refine Eq.trans ?_ ((key ⟨(j 0).val, h0⟩ ⟨(j 1).val, h1⟩).trans ?_)
  · show outBlock _ _ _ j = _
    congr 1
    funext a; fin_cases a <;> rfl
  · rw [View.read_apply]
    show goal m c _ = goal m c _
    congr 1
    funext a
    apply Fin.ext
    match a with
    | ⟨0, _⟩ => show 1024 * (rowOf t).val + (j 0).val = win0_3.index t 0 * 1024 + 1 * (j 0).val; rw [i0]; omega
    | ⟨1, _⟩ => show 128 * (headOf t).val + (j 1).val = win0_3.index t 1 * 128 + 1 * (j 1).val; rw [i1]; omega

theorem covered (i : S16384x1024.Idx) :
    ∃ t : Fin cfg0.N, (cfg0.win 3).flush t = true ∧ i ∈ ((cfg0.win 3).blk t).view.set := by
  have h0 : (i 0).val < 16384 := (i 0).isLt
  have h1 : (i 1).val < 1024 := (i 1).isLt
  have hN : cfg0.N = 128 := N_0
  refine ⟨⟨16 * ((i 1).val / 128) + (i 0).val / 1024, by omega⟩, flush0_3 _, ?_⟩
  generalize ht : (⟨16 * ((i 1).val / 128) + (i 0).val / 1024, by omega⟩ : Fin cfg0.N) = t
  have hv : t.val = 16 * ((i 1).val / 128) + (i 0).val / 1024 := by rw [← ht]
  obtain ⟨i0, i1⟩ := index_3 t
  have e0 : (rowOf t).val = (i 0).val / 1024 := by show t.val % 16 = _; omega
  have e1 : (headOf t).val = (i 1).val / 128 := by show t.val / 16 = _; omega
  show i ∈ ((View.whole main_v19).slice (win0_3.rect t)).set
  rw [View.set_slice_whole, Rect.mem_set_unit]
  intro a
  match a with
  | ⟨0, _⟩ =>
    show win0_3.index t 0 * 1024 ≤ (i 0).val ∧ (i 0).val < win0_3.index t 0 * 1024 + 1024
    rw [i0, e0]; omega
  | ⟨1, _⟩ =>
    show win0_3.index t 1 * 128 ≤ (i 1).val ∧ (i 1).val < win0_3.index t 1 * 128 + 128
    rw [i1, e1]; omega

theorem array_eq (hpre : Cert.Pre_KernelIdeal_finite m) (c : Dev nD) : (dats m 0 c).arrAt 3 cfg0.N = goal m c :=
  (dats m 0 c).arrAt_eq_of_cover 3 (goal m c) (fun t _ => flushed_eq m hpre c t) covered

end Cert.KernelIdeal.Attn

end

end
-- ==== Proof.FfnRef.lean ====
module

public import proofs.«01_k».proof.Proof.Gen.Reference2Ideal
public import Idealize.ShloMosaic.Lib.Claim
public import Idealize.ShloMosaic.Lib.Pointwise
public import Idealize.ShloMosaic.Lib.ValueIdx

/-!
  The expert reference, entry by entry: three products of the gathered rows with the weights of one layer, the first
  through the gated unit.
-/

@[expose] public section

set_option maxRecDepth 16384

noncomputable section

namespace Cert.Reference2Ideal.Ffn

open Idealize.ShloMosaic Idealize.ShloMosaic.TcCoe Idealize.ShloMosaic.Tactic
open Cert.Reference2Ideal Cert.Reference2Ideal.Gen

section Terms

variable {F : FTy → Type} [FloatOps F]

/-- The row numbers, the negative ones counted from the end. -/
def rowIds (ids : IVec S16x2048 32) : IVec S16x2048x1 32 :=
  broadcastInDim S16x2048x1 ![0, 1] bcast_S16x2048_S16x2048x1_0_1
    (select (cmpi .slt ids (broadcastInDim S16x2048 ![] bcast_S_S16x2048 (constantI S_ 32 0#32)))
      (addi ids (broadcastInDim S16x2048 ![] bcast_S_S16x2048 (constantI S_ 32 16384#32))) ids)

/-- The rows each expert takes. -/
def taken (hs : FVec F S16384x2048 .f32) (ids : IVec S16x2048 32) : FVec F S16x2048x2048 .f32 :=
  Host.gather gather_S16384x2048_S16x2048x1_S16x2048x2048_2_0_n_n_0_2_12048 hs (rowIds ids)

/-- One layer's weights. -/
def layer (w : FVec F S2x16x2048x2048 .f32) : FVec F S16x2048x2048 .f32 :=
  shapeCast _ (extractStridedSlice S1x16x2048x2048 ![0, 0, 0, 0] w slices_S2x16x2048x2048_S1x16x2048x2048_0_0_0_0)
    shapeCasts_S1x16x2048x2048_S16x2048x2048

/-- One product per expert. -/
def prod (x y : FVec F S16x2048x2048 .f32) : FVec F S16x2048x2048 .f32 :=
  Host.dotGeneral dot_S16x2048x2048_S16x2048x2048_S16x2048x2048_2_1_1_2_0_0 none x y

/-- `silu(a) u`. -/
def gated (a u : FVec F S16x2048x2048 .f32) : FVec F S16x2048x2048 .f32 :=
  mulf (mulf a (Host.divf (broadcastInDim S16x2048x2048 ![] bcast_S_S16x2048x2048 (constant S_ .f32 0x3F800000#32))
    (addf (broadcastInDim S16x2048x2048 ![] bcast_S_S16x2048x2048 (constant S_ .f32 0x3F800000#32)) (Host.exp (Host.negf a))))) u

/-- The result. -/
def result (hs : FVec F S16384x2048 .f32) (ids : IVec S16x2048 32) (gs : FVec F S16x2048 .f32)
    (wg wu wd : FVec F S2x16x2048x2048 .f32) : FVec F S16x2048x2048 .bf16 :=
  truncf .bf16 (mulf (prod (gated (prod (taken hs ids) (layer wg)) (prod (taken hs ids) (layer wu))) (layer wd))
    (broadcastInDim S16x2048x2048 ![0, 1, 2] bcast_S16x2048x1_S16x2048x2048_0_1_2
      (broadcastInDim S16x2048x1 ![0, 1] bcast_S16x2048_S16x2048x1_0_1 gs))) bitsLt_bf16_f32

end Terms

theorem layer_apply (w : FVec Ideal S2x16x2048x2048 .f32) (e : Fin 16) (k f : Fin 2048) :
    layer w (ix3 e k f) = w (ix4 0 e k f) := by
  unfold layer
  pointwise

theorem prod_apply (x y : FVec Ideal S16x2048x2048 .f32) (e : Fin 16) (r f : Fin 2048) :
    prod x y (ix3 e r f) = ∑ k : Fin 2048, x (ix3 e r k) * y (ix3 e k f) := by
  unfold prod
  pointwise

theorem gated_apply (a u : FVec Ideal S16x2048x2048 .f32) (e : Fin 16) (r f : Fin 2048) :
    gated a u (ix3 e r f) = a (ix3 e r f) * Ideal.div 1 (1 + Ideal.exp (-(a (ix3 e r f)))) * u (ix3 e r f) := by
  unfold gated
  pointwise

theorem result_apply (hs : FVec Ideal S16384x2048 .f32) (ids : IVec S16x2048 32) (gs : FVec Ideal S16x2048 .f32)
    (wg wu wd : FVec Ideal S2x16x2048x2048 .f32) (e : Fin 16) (r d : Fin 2048) :
    result hs ids gs wg wu wd (ix3 e r d)
      = prod (gated (prod (taken hs ids) (layer wg)) (prod (taken hs ids) (layer wu))) (layer wd) (ix3 e r d)
        * gs (ix2 e r) := by
  unfold result
  pointwise

theorem rowIds_apply (ids : IVec S16x2048 32) (e : Fin 16) (r : Fin 2048) (h : 0 ≤ (ids (ix2 e r)).toInt) :
    rowIds ids (ix3 e r 0) = ids (ix2 e r) := by
  unfold rowIds
  pointwise
  have h1 : ¬(ids (ix2 e r)).toInt < 0 := not_lt.2 h
  simp [Scalar.select, IntOp.cmpi, BitVec.slt, h1]

end Cert.Reference2Ideal.Ffn

end

end
-- ==== Proof.FfnFrames.lean ====
/-
  The expert programs' frames: each runs to the end, its arguments unchanged and every semaphore counter at zero.
-/
module

public import proofs.«01_k».proof.Defs
public import proofs.«01_k».proof.Proof.Gen.Kernel2.Frame
public import proofs.«01_k».proof.Proof.Gen.Kernel2Ideal.Frame
public import proofs.«01_k».proof.Proof.Gen.Pre_rows
public import proofs.«01_k».proof.Proof.Gen.Reference2Ideal.Run
public import proofs.«01_k».proof.Proof.FfnRef
public import Idealize.ShloMosaic.Adequacy
public import Idealize.ShloMosaic.Init

@[expose] public section

noncomputable section

namespace Cert.Proof

open Idealize.ShloMosaic Idealize.ShloMosaic.TcCoe Idealize.SL.Sem

theorem frame_kernel2 : Cert.quiescent_Kernel2 := fun m ρ _ => Cert.Kernel2.Gen.frame (F := Bits) m ρ

theorem frame_kernel2_ideal : Cert.quiescent_Kernel2Ideal := fun m ρ _ => Cert.Kernel2Ideal.Gen.frame (F := Ideal) m ρ

theorem frame_kernel2_ideal_pre : Cert.quiescent_Kernel2Ideal_pre_rows :=
  fun m ρ _ => Cert.Kernel2Ideal.Gen.frame (F := Ideal) m ρ

theorem frame_reference2 : Cert.quiescent_Reference2Ideal := fun m ρ _ =>
  (θ_run Cert.Reference2Ideal.defs _ _).mono (fun r h => ⟨fun c => (h c).2,
      Idealize.ShloMosaic.sem_eq_zero_of_no_sems (by decide) r.2⟩)
    (Cert.Reference2Ideal.Value.run (F := Ideal) m ρ)

theorem frame_reference2_pre : Cert.quiescent_Reference2Ideal_pre_rows := fun m ρ _ => frame_reference2 m ρ trivial

end Cert.Proof

end
-- ==== Proof.FfnPay.lean ====
module

public import proofs.«01_k».proof.Proof.Gen.Kernel2Ideal.Skeleton
public import Idealize.ShloMosaic.Lib.Claim
public import Idealize.ShloMosaic.Lib.Pointwise
public import Idealize.ShloMosaic.Lib.ValueIdx

/-!
  The expert kernel's stored values, entry by entry.

  At a grid point the accumulator gains, for 256 of the hidden columns, `silu(x · gate) (x · up)` times the rows of the
  down weights; after the last of the eight points each row is multiplied by its gate value.
-/

@[expose] public section

set_option maxRecDepth 16384

noncomputable section

namespace Cert.Kernel2Ideal.Ffn

open Idealize.ShloMosaic Idealize.ShloMosaic.TcCoe Idealize.ShloMosaic.Tactic
open Cert.Kernel2Ideal Cert.Kernel2Ideal.Gen

/-- The gated unit on a gate column `a` and an up column `u`. -/
def unit (a u : EReal) : EReal := Ideal.div a (1 + Ideal.exp (-a)) * u

/-- The unit's two forms: the quotient, and the column times the logistic function of it. -/
theorem unit_eq (a u : EReal) : unit a u = a * Ideal.div 1 (1 + Ideal.exp (-a)) * u := by
  have h : (1 + Ideal.exp (-a) : EReal) ≠ 0 := by
    have h0 : (0 : EReal) ≤ Ideal.exp (-a) := by
      generalize -a = b
      induction b with
      | bot => exact le_refl _
      | coe r => exact EReal.coe_nonneg.2 (Real.exp_pos r).le
      | top => exact le_top
    intro h1
    have h2 : (1 : EReal) ≤ 0 := h1 ▸ le_add_of_nonneg_right h0
    exact absurd h2 (not_le.2 zero_lt_one)
  unfold unit Ideal.div
  rw [if_neg h, if_neg h, one_mul]

/-- The accumulator starts at zero. -/
theorem start_apply (r : Fin 1024) (d : Fin 2048) : k0_pay2 (F := Ideal) (ix2 r d) = 0 := by
  unfold k0_pay2
  pointwise

/-- What a grid point adds to entry `(r, d)`. -/
def part (x : Vec Ideal S1x1024x2048 .bf16) (g u : Vec Ideal S1x1x2048x256 .f32) (w : Vec Ideal S1x1x256x2048 .f32)
    (r : Fin 1024) (d : Fin 2048) : EReal :=
  ∑ f : Fin 256, unit (∑ e : Fin 2048, x (ix3 0 r e) * g (ix4 0 0 e f)) (∑ e : Fin 2048, x (ix3 0 r e) * u (ix4 0 0 e f))
    * w (ix4 0 0 f d)

theorem step_apply (x : Vec Ideal S1x1024x2048 .bf16) (g u : Vec Ideal S1x1x2048x256 .f32) (a : Vec Ideal S1024x2048 .f32)
    (w : Vec Ideal S1x1x256x2048 .f32) (r : Fin 1024) (d : Fin 2048) :
    k0_pay3 x g u a w (ix2 r d) = a (ix2 r d) + part x g u w r d := by
  unfold k0_pay3 part unit
  pointwise
  simp only [zero_sub]

theorem last_apply (a : Vec Ideal S1024x2048 .f32) (g : Vec Ideal S1x1024x1 .f32) (r : Fin 1024) (d : Fin 2048) :
    k0_pay1 a g (ix3 0 r d) = a (ix2 r d) * g (ix3 0 r 0) := by
  unfold k0_pay1
  pointwise

end Cert.Kernel2Ideal.Ffn

end

end
-- ==== Proof.FfnAcc.lean ====
module

public import proofs.«01_k».proof.Proof.FfnPay
public import proofs.«01_k».proof.Proof.Gen.Kernel2Ideal.Frame
public import Idealize.ShloMosaic.Lib.Pipeline.ValueKit

/-!
  The accumulator over the eight grid points of one block of rows, and the block the last of them stores.
-/

@[expose] public section

set_option maxRecDepth 16384

noncomputable section

namespace Cert.Kernel2Ideal.Ffn

open Idealize.ShloMosaic Idealize.ShloMosaic.TcCoe Idealize.ShloMosaic.Tactic Idealize.SL.Sem
open Idealize.ShloMosaic.Pipeline
open Cert.Kernel2Ideal Cert.Kernel2Ideal.Gen

variable (m : (ℓ : Loc nD τ sig) → Buf (Elt Ideal) ℓ) (c : Dev nD)

/-- The accumulator read back is what was left in it. -/
theorem read_scratch (a : Vec Ideal S1024x2048 .f32) :
    View.read (Elt Ideal) (View.whole cc0_scratch0) ((Memref.isWhole_whole cc0_scratch0).unread a) = a :=
  (Memref.isWhole_whole cc0_scratch0).read_unread a

theorem acc_first (t : Fin cfg0.N) (h : t.val % 8 = 0) : (outsAt0 m c t.val t.isLt).2
    = k0_pay3 (iblk m c 0 t) (iblk m c 1 t) (iblk m c 2 t) (k0_pay2 (F := Ideal)) (iblk m c 3 t) := by
  rw [outsAt0_A m c t h (by omega)]
  frame_out

theorem acc_next (t : Fin cfg0.N) (h : ¬t.val % 8 = 0) : (outsAt0 m c t.val t.isLt).2
    = k0_pay3 (iblk m c 0 t) (iblk m c 1 t) (iblk m c 2 t)
        (outsAt0 m c (t.val - 1) (Nat.lt_of_le_of_lt (Nat.sub_le _ _) t.isLt)).2 (iblk m c 3 t) := by
  by_cases h1 : t.val % 8 = 7
  · rw [outsAt0_C m c t h h1]
    frame_out
    exact congrArg (fun a => k0_pay3 _ _ _ a _) (read_scratch _)
  · rw [outsAt0_B m c t h h1]
    frame_out
    exact congrArg (fun a => k0_pay3 _ _ _ a _) (read_scratch _)

theorem out_last (t : Fin cfg0.N) (h : t.val % 8 = 7) : (outsAt0 m c t.val t.isLt).1
    = k0_pay1 (outsAt0 m c t.val t.isLt).2 (iblk m c 4 t) := by
  rw [acc_next m c t (by omega), outsAt0_C m c t (by omega) h]
  frame_out
  exact congrArg (fun a => k0_pay1 (k0_pay3 _ _ _ a _) _) (read_scratch _)

/-- The accumulator at the last of the eight points: the sum of what each of them adds. -/
theorem acc_sum (t : Fin cfg0.N) (h : t.val % 8 = 7) (r : Fin 1024) (d : Fin 2048) :
    (outsAt0 m c t.val t.isLt).2 (ix2 r d)
      = ∑ s : Fin 8, part (iblk m c 0 ⟨8 * (t.val / 8) + s.val, run_point_lt_of_flush t h s⟩)
          (iblk m c 1 ⟨8 * (t.val / 8) + s.val, run_point_lt_of_flush t h s⟩)
          (iblk m c 2 ⟨8 * (t.val / 8) + s.val, run_point_lt_of_flush t h s⟩)
          (iblk m c 3 ⟨8 * (t.val / 8) + s.val, run_point_lt_of_flush t h s⟩) r d := by
  have key := eq_sum_fin_of_reset_step_apply_of_flush
    (fun n hn (i : Fin 1024 × Fin 2048) => (outsAt0 m c n hn).2 (ix2 i.1 i.2)) 8 (fun _ => (0 : EReal))
    (fun t i => part (iblk m c 0 t) (iblk m c 1 t) (iblk m c 2 t) (iblk m c 3 t) i.1 i.2)
    (fun t h i => by
      rw [acc_first m c t h, step_apply, start_apply])
    (fun t h i => by
      rw [acc_next m c t h, step_apply]) t h (r, d)
  dsimp only at key
  rw [key, zero_add]

/-- Entry `(r, d)` of the block stored at the last point. -/
theorem out_apply (t : Fin cfg0.N) (h : t.val % 8 = 7) (r : Fin 1024) (d : Fin 2048) :
    (outsAt0 m c t.val t.isLt).1 (ix3 0 r d)
      = (∑ s : Fin 8, part (iblk m c 0 ⟨8 * (t.val / 8) + s.val, run_point_lt_of_flush t h s⟩)
          (iblk m c 1 ⟨8 * (t.val / 8) + s.val, run_point_lt_of_flush t h s⟩)
          (iblk m c 2 ⟨8 * (t.val / 8) + s.val, run_point_lt_of_flush t h s⟩)
          (iblk m c 3 ⟨8 * (t.val / 8) + s.val, run_point_lt_of_flush t h s⟩) r d)
        * (iblk m c 4 t : Vec Ideal S1x1024x1 .f32) (ix3 0 r 0) := by
  rw [out_last m c t h, last_apply, acc_sum m c t h]

end Cert.Kernel2Ideal.Ffn

end

end
-- ==== Proof.FfnGather.lean ====
module

public import Idealize.ShloMosaic.Lib.Claim
public import Idealize.ShloMosaic.Lib.Pointwise
public import Idealize.ShloMosaic.Lib.ValueIdx
public import Idealize.ShloMosaic.Lib.ReduceAll

/-!
  Whole rows taken from a matrix by number, the numbers in a list or in a table: where the number is in range, the entry
  read is the entry of that row.
-/

@[expose] public section

noncomputable section

namespace Cert.Ffn

open Idealize.ShloMosaic

variable {α : Type} {N C R E : ℕ}

/-- Rows named by a list of numbers. -/
theorem rows_of_list (d : GatherDims ⟨2, ![N, C]⟩ ⟨2, ![R, 1]⟩ ⟨2, ![R, C]⟩)
    (wf : GatherDims.WF ⟨2, ![N, C]⟩ ⟨2, ![R, 1]⟩ ⟨2, ![R, C]⟩ [1] [0] [] [0] [] 1 ![1, C])
    (hd : d = { offsetDims := [1], collapsedSliceDims := [0], operandBatchingDims := [], startIndicesBatchingDims := [],
                startIndexMap := [0], indexVectorDim := 1, sliceSizes := ![1, C], wf := wf })
    (x : (⟨2, ![N, C]⟩ : Shape).Idx → α) (ids : IVec ⟨2, ![R, 1]⟩ 32) (r : Fin R) (j : Fin C) (n : Fin N)
    (h : (ids (ix2 r 0)).toInt.toNat = n.val) : Host.gather d x ids (ix2 r j) = x (ix2 n j) := by
  subst hd
  unfold Host.gather
  congr 1
  funext a
  refine Fin.ext ?_
  match a with
  | ⟨0, _⟩ =>
    show GatherDims.start _ _ ids 0 + GatherDims.batchCoord _ _ 0 + GatherDims.offCoord _ _ 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have key : ∀ k : (⟨2, ![R, 1]⟩ : Shape).Idx, k = ix2 r 0 → min (ids k).toInt.toNat (N - 1) = n.val := by
      intro k hk
      rw [hk, h]
      have := n.isLt
      omega
    refine key _ ?_
    funext b; refine Fin.ext ?_
    match b with
    | ⟨0, _⟩ => rfl
    | ⟨1, _⟩ => rfl
  | ⟨1, _⟩ =>
    show GatherDims.start _ _ ids 1 + GatherDims.batchCoord _ _ 1 + GatherDims.offCoord _ _ 1 = j.val
    rw [GatherDims.batchCoord_eq_zero _ _ _ List.not_mem_nil]
    unfold GatherDims.start
    rw [dif_neg (by simp)]
    unfold GatherDims.offCoord
    rw [dif_pos ((GatherDims.mem_sKept _ _).mpr ⟨by simp, by simp⟩)]
    simp only [Nat.zero_add]
    rfl

/-- Rows named by a table of numbers. -/
theorem rows_of_table (d : GatherDims ⟨2, ![N, C]⟩ ⟨3, ![E, R, 1]⟩ ⟨3, ![E, R, C]⟩)
    (wf : GatherDims.WF ⟨2, ![N, C]⟩ ⟨3, ![E, R, 1]⟩ ⟨3, ![E, R, C]⟩ [2] [0] [] [0] [] 2 ![1, C])
    (hd : d = { offsetDims := [2], collapsedSliceDims := [0], operandBatchingDims := [], startIndicesBatchingDims := [],
                startIndexMap := [0], indexVectorDim := 2, sliceSizes := ![1, C], wf := wf })
    (x : (⟨2, ![N, C]⟩ : Shape).Idx → α) (ids : IVec ⟨3, ![E, R, 1]⟩ 32) (e : Fin E) (r : Fin R) (j : Fin C) (n : Fin N)
    (h : (ids (ix3 e r 0)).toInt.toNat = n.val) : Host.gather d x ids (ix3 e r j) = x (ix2 n j) := by
  subst hd
  unfold Host.gather
  congr 1
  funext a
  refine Fin.ext ?_
  match a with
  | ⟨0, _⟩ =>
    show GatherDims.start _ _ ids 0 + GatherDims.batchCoord _ _ 0 + GatherDims.offCoord _ _ 0 = n.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    have key : ∀ k : (⟨3, ![E, R, 1]⟩ : Shape).Idx, k = ix3 e r 0 → min (ids k).toInt.toNat (N - 1) = n.val := by
      intro k hk
      rw [hk, h]
      have := n.isLt
      omega
    refine key _ ?_
    funext b; refine Fin.ext ?_
    match b with
    | ⟨0, _⟩ => rfl
    | ⟨1, _⟩ => rfl
    | ⟨2, _⟩ => rfl
  | ⟨1, _⟩ =>
    show GatherDims.start _ _ ids 1 + GatherDims.batchCoord _ _ 1 + GatherDims.offCoord _ _ 1 = j.val
    rw [GatherDims.batchCoord_eq_zero _ _ _ List.not_mem_nil]
    unfold GatherDims.start
    rw [dif_neg (by simp)]
    unfold GatherDims.offCoord
    rw [dif_pos ((GatherDims.mem_sKept _ _).mpr ⟨by simp, by simp⟩)]
    simp only [Nat.zero_add]
    rfl

end Cert.Ffn

end

end
-- ==== Proof.FfnOperands.lean ====
module

public import proofs.«01_k».proof.Proof.FfnGather
public import proofs.«01_k».proof.Proof.Gen.Kernel2Ideal.Launch
public import proofs.«01_k».proof.Proof.Gen.Kernel2Ideal.Frame

/-!
  What the expert call takes: the rows its experts are given, and their gate values.
-/

@[expose] public section

set_option maxRecDepth 16384

noncomputable section

namespace Cert.Kernel2Ideal.Ffn

open Idealize.ShloMosaic Idealize.ShloMosaic.TcCoe Idealize.ShloMosaic.Tactic Idealize.ShloMosaic.StableHlo
open Cert.Kernel2Ideal Cert.Kernel2Ideal.Gen

section Terms

variable {F : FTy → Type} [FloatOps F]

/-- The row numbers in one list, the negative ones counted from the end. -/
def rowList (ids : IVec S16x2048 32) : IVec S32768x1 32 :=
  broadcastInDim S32768x1 ![0] bcast_S32768_S32768x1_0
    (select (cmpi .slt (shapeCast S32768 ids shapeCasts_S16x2048_S32768) (broadcastInDim S32768 ![] bcast_S_S32768 (constantI S_ 32 0#32)))
      (addi (shapeCast S32768 ids shapeCasts_S16x2048_S32768) (broadcastInDim S32768 ![] bcast_S_S32768 (constantI S_ 32 16384#32)))
      (shapeCast S32768 ids shapeCasts_S16x2048_S32768))

/-- Which row numbers are in range. -/
def inRange (l : IVec S32768x1 32) : IVec S32768 1 :=
  Host.reduce IntOp.andi
    (andi (cmpi .sge l (broadcastInDim S32768x1 ![] bcast_S_S32768x1 (constantI S_ 32 0#32)))
      (cmpi .sle l (broadcastInDim S32768x1 ![0, 1] bcast_S1x1_S32768x1_0_1 (broadcastInDim S1x1 ![1] bcast_S1_S1x1_1 (constantI S1 32 16383#32)))))
    (constantI S_ 1 1#1) reducesTo_S32768x1_S32768_d1 h_S_

/-- The rows in one list, a fixed word where the number is out of range. -/
def rowsTaken (hs : FVec F S16384x2048 .f32) (ids : IVec S16x2048 32) : FVec F S32768x2048 .bf16 :=
  select (broadcastInDim S32768x2048 ![0] bcast_S32768_S32768x2048_0 (inRange (rowList ids)))
    (Host.gather gather_S16384x2048_S32768x1_S32768x2048_1_0_n_n_0_1_12048 (truncf .bf16 hs bitsLt_bf16_f32) (rowList ids))
    (broadcastInDim S32768x2048 ![] bcast_S_S32768x2048 (constant S_ .bf16 0x7FC0#16))

/-- The rows, one table per expert. -/
def inputs (hs : FVec F S16384x2048 .f32) (ids : IVec S16x2048 32) : FVec F S16x2048x2048 .bf16 :=
  shapeCast S16x2048x2048 (rowsTaken hs ids) shapeCasts_S32768x2048_S16x2048x2048

/-- The gate values, one column per expert. -/
def gates (gs : FVec F S16x2048 .f32) : FVec F S16x2048x1 .f32 :=
  broadcastInDim S16x2048x1 ![0, 1] bcast_S16x2048_S16x2048x1_0_1 gs

variable (m : (ℓ : Loc nD τ sig) → Buf (Elt F) ℓ)

theorem V_inputs (c : Dev nD) : V m c main_v3
    = inputs (m ((c.tc : Thread nD τ).loc main_arg0)) (m ((c.tc : Thread nD τ).loc main_arg1)) := by
  unfold V hostOps0 hostOps0_1 hostOps0_2
  simp only [List.flatten_cons, List.flatten_nil, List.cons_append, List.nil_append, List.append_nil]
  after_results
  simp only [TRef.ofBuf_toBuf]
  have e0 : ∀ p q r x, (TRef.of main_v0 p q r : TRef sig ⟨S16384x2048, .bf16⟩).ofBuf (Val := Elt F) x = x := fun _ _ _ _ => rfl
  have e1 : ∀ p q r x, (TRef.of main_v1 p q r : TRef sig ⟨S32768, .i32⟩).ofBuf (Val := Elt F) x = x := fun _ _ _ _ => rfl
  have e2 : ∀ p q r x, (TRef.of main_v2 p q r : TRef sig ⟨S32768x2048, .bf16⟩).toBuf (Val := Elt F) x = x := fun _ _ _ _ => rfl
  simp only [e0, e1, e2]
  unfold inputs rowsTaken inRange rowList
  rfl

theorem V_gates (c : Dev nD) : V m c main_v4 = gates (m ((c.tc : Thread nD τ).loc main_arg2)) := by
  unfold V hostOps0 hostOps0_1 hostOps0_2
  simp only [List.flatten_cons, List.flatten_nil, List.cons_append, List.nil_append, List.append_nil]
  after_results <;> rfl

theorem V_gate_weights (c : Dev nD) : V m c main_arg3 = m ((c.tc : Thread nD τ).loc main_arg3) := by
  unfold V hostOps0 hostOps0_1 hostOps0_2
  simp only [List.flatten_cons, List.flatten_nil, List.cons_append, List.nil_append, List.append_nil]
  after_results <;> rfl

theorem V_up_weights (c : Dev nD) : V m c main_arg4 = m ((c.tc : Thread nD τ).loc main_arg4) := by
  unfold V hostOps0 hostOps0_1 hostOps0_2
  simp only [List.flatten_cons, List.flatten_nil, List.cons_append, List.nil_append, List.append_nil]
  after_results <;> rfl

theorem V_down_weights (c : Dev nD) : V m c main_arg5 = m ((c.tc : Thread nD τ).loc main_arg5) := by
  unfold V hostOps0 hostOps0_1 hostOps0_2
  simp only [List.flatten_cons, List.flatten_nil, List.cons_append, List.nil_append, List.append_nil]
  after_results <;> rfl

end Terms

theorem gates_apply (gs : FVec Ideal S16x2048 .f32) (e : Fin 16) (r : Fin 2048) : gates gs (ix3 e r 0) = gs (ix2 e r) := by
  unfold gates
  pointwise

/-- A list's entry is the table's. -/
theorem rowList_apply (ids : IVec S16x2048 32) (l : Fin 32768)
    (h : 0 ≤ (ids (ix2 ⟨l.val / 2048, by omega⟩ ⟨l.val % 2048, by omega⟩)).toInt) :
    rowList ids (ix2 l 0) = ids (ix2 ⟨l.val / 2048, by omega⟩ ⟨l.val % 2048, by omega⟩) := by
  unfold rowList
  pointwise
  have h1 : ¬(ids (ix2 ⟨l.val / 2048, by omega⟩ ⟨l.val % 2048, by omega⟩)).toInt < 0 := not_lt.2 h
  simp [Scalar.select, IntOp.cmpi, BitVec.slt, h1]

/-- Where every number is in range, the test is true. -/
theorem inRange_apply (l : IVec S32768x1 32) (h : ∀ i, 0 ≤ (l (ix2 i 0)).toInt ∧ (l (ix2 i 0)).toInt < 16384) (j : S32768.Idx) :
    inRange l j = 1#1 := by
  unfold inRange
  refine Host.reduce_andi_one _ _ _ _ _ rfl fun i => ?_
  obtain ⟨h0, h1⟩ := h ⟨(i 0).val, (i 0).isLt⟩
  have e : i = ix2 ⟨(i 0).val, (i 0).isLt⟩ 0 := by
    funext a
    match a with
    | ⟨0, _⟩ => rfl
    | ⟨1, _⟩ => exact Subsingleton.elim (α := Fin 1) _ _
  rw [e]
  pointwise
  have h0' : 0 ≤ (l (ix2 (i 0) 0)).toInt := h0
  have h1' : (l (ix2 (i 0) 0)).toInt ≤ 16383 := Int.lt_add_one_iff.1 h1
  simp [IntOp.andi, IntOp.cmpi, BitVec.sle, h0', h1']

theorem rowsTaken_apply (hs : FVec Ideal S16384x2048 .f32) (ids : IVec S16x2048 32)
    (h : ∀ e r, 0 ≤ (ids (ix2 e r)).toInt ∧ (ids (ix2 e r)).toInt < 16384) (l : Fin 32768) (k : Fin 2048) (n : Fin 16384)
    (hn : (ids (ix2 ⟨l.val / 2048, by omega⟩ ⟨l.val % 2048, by omega⟩)).toInt.toNat = n.val) :
    rowsTaken hs ids (ix2 l k) = hs (ix2 n k) := by
  have hl : ∀ i : Fin 32768, rowList ids (ix2 i 0) = ids (ix2 ⟨i.val / 2048, by omega⟩ ⟨i.val % 2048, by omega⟩) :=
    fun i => rowList_apply ids i (h _ _).1
  have hr := inRange_apply (rowList ids) (fun i => by rw [hl i]; exact h _ _)
  unfold rowsTaken
  show Scalar.select (inRange (rowList ids) _) (Host.gather _ _ _ (ix2 l k)) _ = _
  rw [hr]
  exact Cert.Ffn.rows_of_list gather_S16384x2048_S32768x1_S32768x2048_1_0_n_n_0_1_12048
    gather_S16384x2048_S32768x1_S32768x2048_1_0_n_n_0_1_12048_wf rfl _ _ l k n (by rw [hl l]; exact hn)

/-- The rows an expert is given are the rows its numbers name. -/
theorem inputs_apply (hs : FVec Ideal S16384x2048 .f32) (ids : IVec S16x2048 32)
    (h : ∀ e r, 0 ≤ (ids (ix2 e r)).toInt ∧ (ids (ix2 e r)).toInt < 16384) (e : Fin 16) (r k : Fin 2048) (n : Fin 16384)
    (hn : (ids (ix2 e r)).toInt.toNat = n.val) : inputs hs ids (ix3 e r k) = hs (ix2 n k) := by
  unfold inputs
  pointwise
  refine rowsTaken_apply hs ids h _ k n ?_
  rw [← hn]
  congr 3
  have he : (e.val * 2048 + r.val) / 2048 = e.val := by omega
  have hr : (e.val * 2048 + r.val) % 2048 = r.val := by omega
  simp only [he, hr]

end Cert.Kernel2Ideal.Ffn

end

end
-- ==== Proof.FfnBlocks.lean ====
module

public import proofs.«01_k».proof.Proof.FfnAcc
public import proofs.«01_k».proof.Proof.FfnOperands

/-!
  The blocks a grid point of the expert call reads, as parts of the arrays.
-/

@[expose] public section

set_option maxRecDepth 16384

noncomputable section

namespace Cert.Kernel2Ideal.Ffn

open Idealize.ShloMosaic Idealize.ShloMosaic.TcCoe Idealize.ShloMosaic.Tactic Idealize.ShloMosaic.StableHlo Idealize.SL.Sem
open Idealize.ShloMosaic.Pipeline
open Cert.Kernel2Ideal Cert.Kernel2Ideal.Gen

variable (m : (ℓ : Loc nD τ sig) → Buf (Elt Ideal) ℓ)

/-- The expert, the block of rows and the block of hidden columns of a grid point. -/
def expertOf (t : Fin cfg0.N) : Fin 16 := ⟨t.val / 16, by have : cfg0.N = 256 := N_0; have := t.isLt; omega⟩
def rowOf (t : Fin cfg0.N) : Fin 2 := ⟨t.val / 8 % 2, by omega⟩
def colOf (t : Fin cfg0.N) : Fin 8 := ⟨t.val % 8, by omega⟩

theorem index_0 : ∀ t : Fin cfg0.N, win0_0.index t 0 = (expertOf t).val ∧ win0_0.index t 1 = (rowOf t).val
    ∧ win0_0.index t 2 = 0 := by
  decide +kernel
theorem index_1 : ∀ t : Fin cfg0.N, win0_1.index t 0 = 0 ∧ win0_1.index t 1 = (expertOf t).val ∧ win0_1.index t 2 = 0
    ∧ win0_1.index t 3 = (colOf t).val := by
  decide +kernel
theorem index_2 : ∀ t : Fin cfg0.N, win0_2.index t 0 = 0 ∧ win0_2.index t 1 = (expertOf t).val ∧ win0_2.index t 2 = 0
    ∧ win0_2.index t 3 = (colOf t).val := by
  decide +kernel
theorem index_3 : ∀ t : Fin cfg0.N, win0_3.index t 0 = 0 ∧ win0_3.index t 1 = (expertOf t).val
    ∧ win0_3.index t 2 = (colOf t).val ∧ win0_3.index t 3 = 0 := by
  decide +kernel
theorem index_4 : ∀ t : Fin cfg0.N, win0_4.index t 0 = (expertOf t).val ∧ win0_4.index t 1 = (rowOf t).val
    ∧ win0_4.index t 2 = 0 := by
  decide +kernel
theorem index_5 : ∀ t : Fin cfg0.N, win0_5.index t 0 = (expertOf t).val ∧ win0_5.index t 1 = (rowOf t).val
    ∧ win0_5.index t 2 = 0 := by
  decide +kernel

theorem read_0 (A : Vec Ideal S16x2048x2048 .bf16) (t : Fin cfg0.N) (r : Fin 1024) (k : Fin 2048) :
    (((cfg0.win 0).blk t).view.read (Elt Ideal) A : Vec Ideal S1x1024x2048 .bf16) (ix3 0 r k)
      = A (ix3 (expertOf t) ⟨1024 * (rowOf t).val + r.val, by omega⟩ k) := by
  obtain ⟨h0, h1, h2⟩ := index_0 t
  rw [View.read_apply]
  show A _ = A _
  refine congrArg A ?_
  funext a
  apply Fin.ext
  match a with
  | ⟨0, _⟩ => show win0_0.index t 0 * 1 + 1 * 0 = (expertOf t).val; rw [h0]; omega
  | ⟨1, _⟩ => show win0_0.index t 1 * 1024 + 1 * r.val = 1024 * (rowOf t).val + r.val; rw [h1]; omega
  | ⟨2, _⟩ => show win0_0.index t 2 * 2048 + 1 * k.val = k.val; rw [h2]; omega

theorem block_0 (c : Dev nD) (t : Fin cfg0.N) (r : Fin 1024) (k : Fin 2048) :
    (iblk m c 0 t : Vec Ideal S1x1024x2048 .bf16) (ix3 0 r k)
      = (V m c main_v3 : Vec Ideal S16x2048x2048 .bf16) (ix3 (expertOf t) ⟨1024 * (rowOf t).val + r.val, by omega⟩ k) :=
  read_0 (V m c main_v3) t r k

theorem block_1 (c : Dev nD) (t : Fin cfg0.N) (k : Fin 2048) (f : Fin 256) :
    (iblk m c 1 t : Vec Ideal S1x1x2048x256 .f32) (ix4 0 0 k f)
      = (V m c main_arg3 : Vec Ideal S2x16x2048x2048 .f32) (ix4 0 (expertOf t) k ⟨(colOf t).val * 256 + f.val, by omega⟩) := by
  obtain ⟨h0, h1, h2, h3⟩ := index_1 t
  unfold iblk
  rw [View.read_apply]
  show V m c main_arg3 _ = V m c main_arg3 _
  refine congrArg (V m c main_arg3) ?_
  funext a
  apply Fin.ext
  match a with
  | ⟨0, _⟩ => show win0_1.index t 0 * 1 + 1 * 0 = 0; rw [h0]
  | ⟨1, _⟩ => show win0_1.index t 1 * 1 + 1 * 0 = (expertOf t).val; rw [h1]; omega
  | ⟨2, _⟩ => show win0_1.index t 2 * 2048 + 1 * k.val = k.val; rw [h2]; omega
  | ⟨3, _⟩ => show win0_1.index t 3 * 256 + 1 * f.val = (colOf t).val * 256 + f.val; rw [h3]; omega

theorem block_2 (c : Dev nD) (t : Fin cfg0.N) (k : Fin 2048) (f : Fin 256) :
    (iblk m c 2 t : Vec Ideal S1x1x2048x256 .f32) (ix4 0 0 k f)
      = (V m c main_arg4 : Vec Ideal S2x16x2048x2048 .f32) (ix4 0 (expertOf t) k ⟨(colOf t).val * 256 + f.val, by omega⟩) := by
  obtain ⟨h0, h1, h2, h3⟩ := index_2 t
  unfold iblk
  rw [View.read_apply]
  show V m c main_arg4 _ = V m c main_arg4 _
  refine congrArg (V m c main_arg4) ?_
  funext a
  apply Fin.ext
  match a with
  | ⟨0, _⟩ => show win0_2.index t 0 * 1 + 1 * 0 = 0; rw [h0]
  | ⟨1, _⟩ => show win0_2.index t 1 * 1 + 1 * 0 = (expertOf t).val; rw [h1]; omega
  | ⟨2, _⟩ => show win0_2.index t 2 * 2048 + 1 * k.val = k.val; rw [h2]; omega
  | ⟨3, _⟩ => show win0_2.index t 3 * 256 + 1 * f.val = (colOf t).val * 256 + f.val; rw [h3]; omega

theorem block_3 (c : Dev nD) (t : Fin cfg0.N) (f : Fin 256) (d : Fin 2048) :
    (iblk m c 3 t : Vec Ideal S1x1x256x2048 .f32) (ix4 0 0 f d)
      = (V m c main_arg5 : Vec Ideal S2x16x2048x2048 .f32) (ix4 0 (expertOf t) ⟨(colOf t).val * 256 + f.val, by omega⟩ d) := by
  obtain ⟨h0, h1, h2, h3⟩ := index_3 t
  unfold iblk
  rw [View.read_apply]
  show V m c main_arg5 _ = V m c main_arg5 _
  refine congrArg (V m c main_arg5) ?_
  funext a
  apply Fin.ext
  match a with
  | ⟨0, _⟩ => show win0_3.index t 0 * 1 + 1 * 0 = 0; rw [h0]
  | ⟨1, _⟩ => show win0_3.index t 1 * 1 + 1 * 0 = (expertOf t).val; rw [h1]; omega
  | ⟨2, _⟩ => show win0_3.index t 2 * 256 + 1 * f.val = (colOf t).val * 256 + f.val; rw [h2]; omega
  | ⟨3, _⟩ => show win0_3.index t 3 * 2048 + 1 * d.val = d.val; rw [h3]; omega

theorem read_4 (A : Vec Ideal S16x2048x1 .f32) (t : Fin cfg0.N) (r : Fin 1024) :
    (((cfg0.win 4).blk t).view.read (Elt Ideal) A : Vec Ideal S1x1024x1 .f32) (ix3 0 r 0)
      = A (ix3 (expertOf t) ⟨1024 * (rowOf t).val + r.val, by omega⟩ 0) := by
  obtain ⟨h0, h1, h2⟩ := index_4 t
  rw [View.read_apply]
  show A _ = A _
  refine congrArg A ?_
  funext a
  apply Fin.ext
  match a with
  | ⟨0, _⟩ => show win0_4.index t 0 * 1 + 1 * 0 = (expertOf t).val; rw [h0]; omega
  | ⟨1, _⟩ => show win0_4.index t 1 * 1024 + 1 * r.val = 1024 * (rowOf t).val + r.val; rw [h1]; omega
  | ⟨2, _⟩ => show win0_4.index t 2 * 1 + 1 * 0 = 0; rw [h2]

theorem block_4 (c : Dev nD) (t : Fin cfg0.N) (r : Fin 1024) :
    (iblk m c 4 t : Vec Ideal S1x1024x1 .f32) (ix3 0 r 0)
      = (V m c main_v4 : Vec Ideal S16x2048x1 .f32) (ix3 (expertOf t) ⟨1024 * (rowOf t).val + r.val, by omega⟩ 0) :=
  read_4 (V m c main_v4) t r

end Cert.Kernel2Ideal.Ffn

end

end
-- ==== Proof.FfnEntry.lean ====
module

public import proofs.«01_k».proof.Proof.FfnPay
public import proofs.«01_k».proof.Proof.FfnOperands
public import proofs.«01_k».proof.Proof.FfnRef

/-!
  One entry of the expert reference, over the rows the kernel takes.
-/

@[expose] public section

set_option maxRecDepth 16384

noncomputable section

namespace Cert.Kernel2Ideal.Ffn

open Idealize.ShloMosaic Idealize.ShloMosaic.TcCoe Idealize.ShloMosaic.Tactic Idealize.ShloMosaic.StableHlo Idealize.SL.Sem
open Idealize.ShloMosaic.Pipeline
open Cert.Kernel2Ideal Cert.Kernel2Ideal.Gen

section Entry

variable (hs : FVec Ideal S16384x2048 .f32) (ids : IVec S16x2048 32) (gs : FVec Ideal S16x2048 .f32)
  (wg wu wd : FVec Ideal S2x16x2048x2048 .f32)

/-- The reference's result on the kernel's arguments. -/
abbrev target : FVec Ideal S16x2048x2048 .bf16 := Cert.Reference2Ideal.Ffn.result hs ids gs wg wu wd

/-- Hidden column `f` of row `r` of expert `e`. -/
def hidden (e : Fin 16) (r f : Fin 2048) : EReal :=
  unit (∑ k : Fin 2048, inputs hs ids (ix3 e r k) * wg (ix4 0 e k f)) (∑ k : Fin 2048, inputs hs ids (ix3 e r k) * wu (ix4 0 e k f))

/-- Where the row numbers are in range both programs take the same rows. -/
theorem taken_eq (h : ∀ e r, 0 ≤ (ids (ix2 e r)).toInt ∧ (ids (ix2 e r)).toInt < 16384) (e : Fin 16) (r k : Fin 2048) :
    Cert.Reference2Ideal.Ffn.taken hs ids (ix3 e r k) = inputs hs ids (ix3 e r k) := by
  obtain ⟨h0, h1⟩ := h e r
  have hn : (ids (ix2 e r)).toInt.toNat = (⟨(ids (ix2 e r)).toInt.toNat, by omega⟩ : Fin 16384).val := rfl
  rw [inputs_apply hs ids h e r k _ hn]
  unfold Cert.Reference2Ideal.Ffn.taken
  refine Cert.Ffn.rows_of_table _ (Cert.Reference2Ideal.gather_S16384x2048_S16x2048x1_S16x2048x2048_2_0_n_n_0_2_12048).wf rfl _ _ e r k _ ?_
  rw [Cert.Reference2Ideal.Ffn.rowIds_apply ids e r h0]

theorem target_apply (h : ∀ e r, 0 ≤ (ids (ix2 e r)).toInt ∧ (ids (ix2 e r)).toInt < 16384) (e : Fin 16) (r d : Fin 2048) :
    target hs ids gs wg wu wd (ix3 e r d)
      = (∑ f : Fin 2048, hidden hs ids wg wu e r f * wd (ix4 0 e f d)) * gs (ix2 e r) := by
  unfold target hidden
  rw [Cert.Reference2Ideal.Ffn.result_apply, Cert.Reference2Ideal.Ffn.prod_apply]
  simp only [Cert.Reference2Ideal.Ffn.gated_apply, Cert.Reference2Ideal.Ffn.prod_apply, Cert.Reference2Ideal.Ffn.layer_apply,
    taken_eq hs ids h, unit_eq]

end Entry

end Cert.Kernel2Ideal.Ffn

end

end
-- ==== Proof.FfnRows.lean ====
module

public import proofs.«01_k».proof.Proof.Gen.Pre_rows
public import Idealize.ShloMosaic.Lib.Claim
public import Idealize.ShloMosaic.Lib.Pointwise
public import Idealize.ShloMosaic.Lib.ValueIdx
public import Idealize.ShloMosaic.Lib.ReduceAll

/-!
  The expert call's precondition, read: every row number is in range.
-/

@[expose] public section

set_option maxRecDepth 16384

noncomputable section

namespace Cert.Pre_rows.Ffn

open Idealize.ShloMosaic Idealize.ShloMosaic.TcCoe Idealize.ShloMosaic.Tactic
open Cert.Pre_rows Cert.Pre_rows.Facts

variable [Cert.Pre_rows.Facts]

theorem in_range (hs : FVec Ideal S16384x2048 .f32) (ids : IVec S16x2048 32) (gs : FVec Ideal S16x2048 .f32)
    (wg wu wd : FVec Ideal S2x16x2048x2048 .f32) (h : fn (F := Ideal) hs ids gs wg wu wd = fun _ => 1#1)
    (e : Fin 16) (r : Fin 2048) : 0 ≤ (ids (ix2 e r)).toInt ∧ (ids (ix2 e r)).toInt < 16384 := by
  haveI : Subsingleton S_.Idx := ⟨fun a b => funext fun k => k.elim0⟩
  have h0 := congrFun h ix0
  unfold fn at h0
  dsimp only at h0
  have h1 := Host.reduce_andi_all _ _ _ _ _ h0 (ix2 e r)
  obtain ⟨h2, h3⟩ := IntOp.andi_eq_one.1 h1
  have h4 : IntOp.cmpi .sge (ids (ix2 e r)) 0#32 = 1#1 := h2
  have h5 : IntOp.cmpi .slt (ids (ix2 e r)) 16384#32 = 1#1 := h3
  constructor
  · by_contra hn
    simp [IntOp.cmpi, BitVec.sle, hn] at h4
  · by_contra hn
    simp [IntOp.cmpi, BitVec.slt, hn] at h5

end Cert.Pre_rows.Ffn

end

end
-- ==== Proof.FfnValue.lean ====
module

public import proofs.«01_k».proof.Proof.FfnBlocks
public import proofs.«01_k».proof.Proof.FfnEntry
public import proofs.«01_k».proof.Proof.FfnRows
public import proofs.«01_k».proof.Defs

/-!
  The expert call's result array.

  Grid points `16e + 8i ..` (eight of them) make rows `1024i ..` of expert `e`; each adds 256 of the 2048 hidden columns.
-/

@[expose] public section

set_option maxRecDepth 16384

noncomputable section

namespace Cert.Kernel2Ideal.Ffn

open Idealize.ShloMosaic Idealize.ShloMosaic.TcCoe Idealize.ShloMosaic.Tactic Idealize.ShloMosaic.StableHlo Idealize.SL.Sem
open Idealize.ShloMosaic.Pipeline
open Cert.Kernel2Ideal Cert.Kernel2Ideal.Gen

variable (m : (ℓ : Loc nD τ sig) → Buf (Elt Ideal) ℓ)

/-- The reference's result on the launch contents of the arguments. -/
def goal (c : Dev nD) : Buf (Elt Ideal) ((c.tc : Thread nD τ).loc main_v5) :=
  target (m ((c.tc : Thread nD τ).loc main_arg0)) (m ((c.tc : Thread nD τ).loc main_arg1))
    (m ((c.tc : Thread nD τ).loc main_arg2)) (m ((c.tc : Thread nD τ).loc main_arg3)) (m ((c.tc : Thread nD τ).loc main_arg4))
    (m ((c.tc : Thread nD τ).loc main_arg5))

/-- What a grid point adds, over the arguments. -/
theorem part_apply (c : Dev nD) (t : Fin cfg0.N) (r : Fin 1024) (d : Fin 2048) :
    part (iblk m c 0 t) (iblk m c 1 t) (iblk m c 2 t) (iblk m c 3 t) r d
      = ∑ f : Fin 256, hidden (m ((c.tc : Thread nD τ).loc main_arg0)) (m ((c.tc : Thread nD τ).loc main_arg1))
          (m ((c.tc : Thread nD τ).loc main_arg3)) (m ((c.tc : Thread nD τ).loc main_arg4)) (expertOf t)
          ⟨1024 * (rowOf t).val + r.val, by omega⟩ ⟨(colOf t).val * 256 + f.val, by omega⟩
        * (m ((c.tc : Thread nD τ).loc main_arg5) : Vec Ideal S2x16x2048x2048 .f32)
            (ix4 0 (expertOf t) ⟨(colOf t).val * 256 + f.val, by omega⟩ d) := by
  unfold part hidden
  simp only [block_0, block_1, block_2, block_3]
  rw [V_inputs, V_gate_weights, V_up_weights, V_down_weights]

/-- What the eight grid points add together: all the hidden columns. -/
theorem sum_eq (c : Dev nD) (t : Fin cfg0.N) (ht : t.val % 8 = 7) (r : Fin 1024) (d : Fin 2048) :
    ∑ s : Fin 8, part (iblk m c 0 ⟨8 * (t.val / 8) + s.val, run_point_lt_of_flush t ht s⟩)
        (iblk m c 1 ⟨8 * (t.val / 8) + s.val, run_point_lt_of_flush t ht s⟩)
        (iblk m c 2 ⟨8 * (t.val / 8) + s.val, run_point_lt_of_flush t ht s⟩)
        (iblk m c 3 ⟨8 * (t.val / 8) + s.val, run_point_lt_of_flush t ht s⟩) r d
      = ∑ f : Fin 2048, hidden (m ((c.tc : Thread nD τ).loc main_arg0)) (m ((c.tc : Thread nD τ).loc main_arg1))
          (m ((c.tc : Thread nD τ).loc main_arg3)) (m ((c.tc : Thread nD τ).loc main_arg4)) (expertOf t)
          ⟨1024 * (rowOf t).val + r.val, by omega⟩ f
        * (m ((c.tc : Thread nD τ).loc main_arg5) : Vec Ideal S2x16x2048x2048 .f32) (ix4 0 (expertOf t) f d) := by
  simp only [part_apply]
  refine Fin.sum_mul_add_congr fun s f hl => ?_
  have e1 : ∀ h, expertOf ⟨8 * (t.val / 8) + s.val, h⟩ = expertOf t := fun h => Fin.ext (by
    show (8 * (t.val / 8) + s.val) / 16 = t.val / 16; omega)
  have e2 : ∀ h, rowOf ⟨8 * (t.val / 8) + s.val, h⟩ = rowOf t := fun h => Fin.ext (by
    show (8 * (t.val / 8) + s.val) / 8 % 2 = t.val / 8 % 2; omega)
  have e3 : ∀ h, colOf ⟨8 * (t.val / 8) + s.val, h⟩ = s := fun h => Fin.ext (by
    show (8 * (t.val / 8) + s.val) % 8 = s.val; omega)
  simp only [e1, e2, e3]

theorem entry_eq (hpre : Cert.Pre_Kernel2Ideal_rows m) (c : Dev nD) (t : Fin cfg0.N) (ht : t.val % 8 = 7) (r : Fin 1024)
    (d : Fin 2048) : (outsAt0 m c t.val t.isLt).1 (ix3 0 r d)
      = goal m c (ix3 (expertOf t) ⟨1024 * (rowOf t).val + r.val, by omega⟩ d) := by
  have hr := Cert.Pre_rows.Ffn.in_range _ _ _ _ _ _ (hpre c)
  rw [out_apply m c t ht, block_4, V_gates, gates_apply, sum_eq m c t ht]
  exact (target_apply _ _ _ _ _ _ hr _ _ _).symm

theorem flushed_eq (hpre : Cert.Pre_Kernel2Ideal_rows m) (c : Dev nD) (t : Fin cfg0.N)
    (hf : (cfg0.win 5).flush t = true) :
    (dats m 0 c).flushed 5 t = ((cfg0.win 5).blk t).view.read (Elt Ideal) (goal m c) := by
  obtain ⟨i0, i1, i2⟩ := index_5 t
  show (cfg0.win 5).cut (grid0.coords t) ((dats m 0 c).after 5 t) = _
  rw [after0_5]
  funext j
  have h0 : (j 0).val < 1 := (j 0).isLt
  have h1 : (j 1).val < 1024 := (j 1).isLt
  have h2 : (j 2).val < 2048 := (j 2).isLt
  refine Eq.trans ?_ ((entry_eq m hpre c t ((flush0_5 t).mp hf) ⟨(j 1).val, h1⟩ ⟨(j 2).val, h2⟩).trans ?_)
  · show (outsAt0 m c t.val t.isLt).1 j = _
    refine congrArg (outsAt0 m c t.val t.isLt).1 ?_
    funext a
    match a with
    | ⟨0, _⟩ => exact Subsingleton.elim (α := Fin 1) _ _
    | ⟨1, _⟩ => rfl
    | ⟨2, _⟩ => rfl
  · rw [View.read_apply]
    show goal m c _ = goal m c _
    refine congrArg (goal m c) ?_
    funext a
    apply Fin.ext
    match a with
    | ⟨0, _⟩ => show (expertOf t).val = win0_5.index t 0 * 1 + 1 * (j 0).val; rw [i0]; omega
    | ⟨1, _⟩ => show 1024 * (rowOf t).val + (j 1).val = win0_5.index t 1 * 1024 + 1 * (j 1).val; rw [i1]; omega
    | ⟨2, _⟩ => show (j 2).val = win0_5.index t 2 * 2048 + 1 * (j 2).val; rw [i2]; omega

theorem covered (i : S16x2048x2048.Idx) :
    ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 2048 := (i 2).isLt
  have hN : cfg0.N = 256 := N_0
  refine ⟨⟨16 * (i 0).val + 8 * ((i 1).val / 1024) + 7, by omega⟩, (flush0_5 _).mpr ?_, ?_⟩
  · show (16 * (i 0).val + 8 * ((i 1).val / 1024) + 7) % 8 = 7
    omega
  generalize ht : (⟨16 * (i 0).val + 8 * ((i 1).val / 1024) + 7, by omega⟩ : Fin cfg0.N) = t
  have hv : t.val = 16 * (i 0).val + 8 * ((i 1).val / 1024) + 7 := by rw [← ht]
  obtain ⟨i0, i1, i2⟩ := index_5 t
  have e0 : (expertOf t).val = (i 0).val := by show t.val / 16 = _; omega
  have e1 : (rowOf t).val = (i 1).val / 1024 := by show t.val / 8 % 2 = _; omega
  show i ∈ ((View.whole main_v5).slice (win0_5.rect t)).set
  rw [View.set_slice_whole, Rect.mem_set_unit]
  intro a
  match a with
  | ⟨0, _⟩ =>
    show win0_5.index t 0 * 1 ≤ (i 0).val ∧ (i 0).val < win0_5.index t 0 * 1 + 1
    rw [i0, e0]; omega
  | ⟨1, _⟩ =>
    show win0_5.index t 1 * 1024 ≤ (i 1).val ∧ (i 1).val < win0_5.index t 1 * 1024 + 1024
    rw [i1, e1]; omega
  | ⟨2, _⟩ =>
    show win0_5.index t 2 * 2048 ≤ (i 2).val ∧ (i 2).val < win0_5.index t 2 * 2048 + 2048
    rw [i2]; omega

theorem array_eq (hpre : Cert.Pre_Kernel2Ideal_rows m) (c : Dev nD) : (dats m 0 c).arrAt 5 cfg0.N = goal m c :=
  (dats m 0 c).arrAt_eq_of_cover 5 (goal m c) (fun t hf => flushed_eq m hpre c t hf) covered

end Cert.Kernel2Ideal.Ffn

end

end
-- ==== Proof.lean ====
/-
  The certificate of the attention and the expert call: the frames of the programs (Proof/Frames.lean,
  Proof/FfnFrames.lean), and the equality of each kernel's result with its reference's over the extended reals
  (Proof/Value.lean, Proof/FfnValue.lean).
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Pre_rows
public import proofs.«01_k».proof.Proof.Frames
public import proofs.«01_k».proof.Proof.Value
public import proofs.«01_k».proof.Proof.FfnFrames
public import proofs.«01_k».proof.Proof.FfnValue
public import Idealize.ShloMosaic.Adequacy
public import Idealize.ShloMosaic.Init

@[expose] public section

noncomputable section

namespace Cert.Proof

open Idealize.ShloMosaic Idealize.SL.Sem Cert.Kernel

/-- The kernel and the reference leave equal results, where the queries and keys are real. -/
theorem equal_results : Cert.algebraic_KernelIdeal_ReferenceIdeal_pre_finite := by
  intro m g m' g' hpre hargs
  refine ⟨Cert.KernelIdeal.Attn.goal m, ?_, ?_⟩
  · refine (θ_run _ _ _).mono (fun r h c => ⟨((h.1 c).1 3).trans (Cert.KernelIdeal.Attn.array_eq m hpre c), h.2.1 c⟩)
      (θ_run_and (Cert.KernelIdeal.Attn.run_main m g) (Cert.KernelIdeal.Attn.frame m g))
  · refine (θ_run _ _ _).mono (fun r h c => ⟨(h c).1.trans ?_, (h c).2⟩) (Cert.ReferenceIdeal.Attn.run_result m' g')
    obtain ⟨h0, h1, h2, h3, h4⟩ := hargs c
    rw [h0, h1, h2, h3, h4]
    rfl

/-- The expert kernel and its reference leave equal results, where the row numbers are in range. -/
theorem equal_results2 : Cert.algebraic_Kernel2Ideal_Reference2Ideal_pre_rows := by
  intro m g m' g' hpre hargs
  refine ⟨Cert.Kernel2Ideal.Ffn.goal m, ?_, ?_⟩
  · refine (θ_run _ _ _).mono (fun r h c => ⟨((h.1 c).1 5).trans (Cert.Kernel2Ideal.Ffn.array_eq m hpre c), h.2.1 c⟩)
      (θ_run_and (Cert.Kernel2Ideal.Gen.run_main m g) (Cert.Kernel2Ideal.Gen.frame m g))
  · refine (θ_run _ _ _).mono (fun r h c => ⟨(h c).1.trans ?_, (h c).2⟩) (Cert.Reference2Ideal.Value.run (F := Ideal) m' g')
    obtain ⟨h0, h1, h2, h3, h4, h5⟩ := hargs c
    rw [h0, h1, h2, h3, h4, h5]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Pre_finite.Gen.facts, Cert.Pre_rows.Gen.facts,
  frame_kernel, frame_kernel_ideal, frame_kernel_ideal_pre, frame_reference, frame_reference_pre,
  frame_kernel2, frame_kernel2_ideal, frame_kernel2_ideal_pre, frame_reference2, frame_reference2_pre,
  trivial, equal_results, trivial, equal_results2⟩

end Cert.Proof

end
